-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "big" .f32 0x7F61B1E6#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048x128 : Shape := ⟨3, ![64, 2048, 128]⟩
abbrev S1x2048x128 : Shape := ⟨3, ![1, 2048, 128]⟩
abbrev S8x128 : Shape := ⟨2, ![8, 128]⟩
abbrev S2048x128 : Shape := ⟨2, ![2048, 128]⟩
abbrev S2048x1 : Shape := ⟨2, ![2048, 1]⟩
abbrev S128x2x1x8x128 : Shape := ⟨5, ![128, 2, 1, 8, 128]⟩
abbrev S128x1x1x8x128 : Shape := ⟨5, ![128, 1, 1, 8, 128]⟩
abbrev S128x1x8x128 : Shape := ⟨4, ![128, 1, 8, 128]⟩
abbrev S128x1x1x1 : Shape := ⟨4, ![128, 1, 1, 1]⟩
abbrev S64x2x2x1x8x128 : Shape := ⟨6, ![64, 2, 2, 1, 8, 128]⟩
abbrev S64x1x1x1 : Shape := ⟨4, ![64, 1, 1, 1]⟩
abbrev S64x1x1x1x8x128 : Shape := ⟨6, ![64, 1, 1, 1, 8, 128]⟩
abbrev S64x1x8x128 : Shape := ⟨4, ![64, 1, 8, 128]⟩
abbrev S64x1x1x8x128 : Shape := ⟨5, ![64, 1, 1, 8, 128]⟩
abbrev S64x4x1x8x128 : Shape := ⟨5, ![64, 4, 1, 8, 128]⟩
abbrev S32x2x2x2x8x128 : Shape := ⟨6, ![32, 2, 2, 2, 8, 128]⟩
abbrev S32x1x1x1 : Shape := ⟨4, ![32, 1, 1, 1]⟩
abbrev S32x1x1x2x8x128 : Shape := ⟨6, ![32, 1, 1, 2, 8, 128]⟩
abbrev S32x2x8x128 : Shape := ⟨4, ![32, 2, 8, 128]⟩
abbrev S32x1x2x8x128 : Shape := ⟨5, ![32, 1, 2, 8, 128]⟩
abbrev S32x4x2x8x128 : Shape := ⟨5, ![32, 4, 2, 8, 128]⟩
abbrev S16x2x2x4x8x128 : Shape := ⟨6, ![16, 2, 2, 4, 8, 128]⟩
abbrev S16x1x1x1 : Shape := ⟨4, ![16, 1, 1, 1]⟩
abbrev S16x1x1x4x8x128 : Shape := ⟨6, ![16, 1, 1, 4, 8, 128]⟩
abbrev S16x4x8x128 : Shape := ⟨4, ![16, 4, 8, 128]⟩
abbrev S16x1x4x8x128 : Shape := ⟨5, ![16, 1, 4, 8, 128]⟩
abbrev S16x4x4x8x128 : Shape := ⟨5, ![16, 4, 4, 8, 128]⟩
abbrev S8x2x2x8x8x128 : Shape := ⟨6, ![8, 2, 2, 8, 8, 128]⟩
abbrev S8x1x1x1 : Shape := ⟨4, ![8, 1, 1, 1]⟩
abbrev S8x1x1x8x8x128 : Shape := ⟨6, ![8, 1, 1, 8, 8, 128]⟩
abbrev S8x8x8x128 : Shape := ⟨4, ![8, 8, 8, 128]⟩
abbrev S8x1x8x8x128 : Shape := ⟨5, ![8, 1, 8, 8, 128]⟩
abbrev S8x4x8x8x128 : Shape := ⟨5, ![8, 4, 8, 8, 128]⟩
abbrev S4x2x2x16x8x128 : Shape := ⟨6, ![4, 2, 2, 16, 8, 128]⟩
abbrev S4x1x1x1 : Shape := ⟨4, ![4, 1, 1, 1]⟩
abbrev S4x1x1x16x8x128 : Shape := ⟨6, ![4, 1, 1, 16, 8, 128]⟩
abbrev S4x16x8x128 : Shape := ⟨4, ![4, 16, 8, 128]⟩
abbrev S4x1x16x8x128 : Shape := ⟨5, ![4, 1, 16, 8, 128]⟩
abbrev S4x4x16x8x128 : Shape := ⟨5, ![4, 4, 16, 8, 128]⟩
abbrev S2x2x2x32x8x128 : Shape := ⟨6, ![2, 2, 2, 32, 8, 128]⟩
abbrev S2x1x1x1 : Shape := ⟨4, ![2, 1, 1, 1]⟩
abbrev S2x1x1x32x8x128 : Shape := ⟨6, ![2, 1, 1, 32, 8, 128]⟩
abbrev S2x32x8x128 : Shape := ⟨4, ![2, 32, 8, 128]⟩
abbrev S2x1x32x8x128 : Shape := ⟨5, ![2, 1, 32, 8, 128]⟩
abbrev S2x4x32x8x128 : Shape := ⟨5, ![2, 4, 32, 8, 128]⟩
abbrev S1x2x2x64x8x128 : Shape := ⟨6, ![1, 2, 2, 64, 8, 128]⟩
abbrev S1x1x8x1 : Shape := ⟨4, ![1, 1, 8, 1]⟩
abbrev S1x1x1x64x8x128 : Shape := ⟨6, ![1, 1, 1, 64, 8, 128]⟩
abbrev S1x64x8x128 : Shape := ⟨4, ![1, 64, 8, 128]⟩
abbrev S1x1x64x8x128 : Shape := ⟨5, ![1, 1, 64, 8, 128]⟩
abbrev S1x4x64x8x128 : Shape := ⟨5, ![1, 4, 64, 8, 128]⟩
abbrev S8x32x8x128 : Shape := ⟨4, ![8, 32, 8, 128]⟩
abbrev S8x1x8x128 : Shape := ⟨4, ![8, 1, 8, 128]⟩
abbrev S8x8x128 : Shape := ⟨3, ![8, 8, 128]⟩
abbrev S64x128 : Shape := ⟨2, ![64, 128]⟩
abbrev S1x128 : Shape := ⟨2, ![1, 128]⟩

abbrev nBuf : Space → Nat
  | .hbm => 2
  | .vmem => 5
  | .smem => 0
  | _ => 0

abbrev bufTy : (tb : Table) → Fin (tcTables nBuf tb) → BufTy
  | .hbm, ⟨0, _⟩ => ⟨S64x2048x128, .f32⟩
  | .hbm, ⟨1, _⟩ => ⟨S64x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S8x128, .f32⟩
  | _, _ => ⟨S64x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "big" => some ⊤
  | _ => none
-- ==== ReferenceIdeal.lean ====
abbrev S64x2048x128 : Shape := ⟨3, ![64, 2048, 128]⟩
abbrev S_ : Shape := ⟨0, ![]⟩
abbrev S63 : Shape := ⟨1, ![63]⟩
abbrev S1 : Shape := ⟨1, ![1]⟩
abbrev S64 : Shape := ⟨1, ![64]⟩
abbrev S64x128x2048 : Shape := ⟨3, ![64, 128, 2048]⟩
abbrev S64x1 : Shape := ⟨2, ![64, 1]⟩
abbrev S1x1 : Shape := ⟨2, ![1, 1]⟩
abbrev S64x128x64 : Shape := ⟨3, ![64, 128, 64]⟩
abbrev S1x1x64 : Shape := ⟨3, ![1, 1, 64]⟩
abbrev S8192x2048 : Shape := ⟨2, ![8192, 2048]⟩
abbrev S8192x64 : Shape := ⟨2, ![8192, 64]⟩
abbrev S8192x1x64 : Shape := ⟨3, ![8192, 1, 64]⟩
abbrev S8192x2048x1 : Shape := ⟨3, ![8192, 2048, 1]⟩
abbrev S8192x2048x64 : Shape := ⟨3, ![8192, 2048, 64]⟩
abbrev S1x1x1 : Shape := ⟨3, ![1, 1, 1]⟩

abbrev nBuf : Space → Nat
  | .hbm => 362
  | .vmem => 0
  | .smem => 0
  | _ => 0

abbrev hbmTy0_0 (i : Nat) : BufTy := match i % 128 with
  | 0 => ⟨S64x2048x128, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S63, .f32⟩
  | 9 => ⟨S_, .f32⟩
  | 10 => ⟨S63, .f32⟩
  | 11 => ⟨S63, .f32⟩
  | 12 => ⟨S1, .f32⟩
  | 13 => ⟨S_, .f32⟩
  | 14 => ⟨S63, .f32⟩
  | 15 => ⟨S63, .f32⟩
  | 16 => ⟨S63, .f32⟩
  | 17 => ⟨S63, .f32⟩
  | 18 => ⟨S1, .f32⟩
  | 19 => ⟨S63, .f32⟩
  | 20 => ⟨S63, .f32⟩
  | 21 => ⟨S63, .f32⟩
  | 22 => ⟨S1, .f32⟩
  | 23 => ⟨S64, .f32⟩
  | 24 => ⟨S64x2048x128, .f32⟩
  | 25 => ⟨S_, .f32⟩
  | 26 => ⟨S64, .f32⟩
  | 27 => ⟨S64, .f32⟩
  | 28 => ⟨S_, .f32⟩
  | 29 => ⟨S64, .f32⟩
  | 30 => ⟨S64, .f32⟩
  | 31 => ⟨S_, .f32⟩
  | 32 => ⟨S_, .f32⟩
  | 33 => ⟨S_, .f32⟩
  | 34 => ⟨S64, .f32⟩
  | 35 => ⟨S64, .f32⟩
  | 36 => ⟨S_, .f32⟩
  | 37 => ⟨S64, .f32⟩
  | 38 => ⟨S64, .f32⟩
  | 39 => ⟨S64, .i32⟩
  | 40 => ⟨S_, .i32⟩
  | 41 => ⟨S_, .i32⟩
  | 42 => ⟨S_, .i32⟩
  | 43 => ⟨S64, .i32⟩
  | 44 => ⟨S64, .i32⟩
  | 45 => ⟨S_, .i32⟩
  | 46 => ⟨S64, .i32⟩
  | 47 => ⟨S64, .i32⟩
  | 48 => ⟨S64, .f32⟩
  | 49 => ⟨S64, .f32⟩
  | 50 => ⟨S_, .f32⟩
  | 51 => ⟨S_, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S64x128x2048, .f32⟩
  | 59 => ⟨S_, .i32⟩
  | 60 => ⟨S64, .i32⟩
  | 61 => ⟨S64, .i1⟩
  | 62 => ⟨S_, .i32⟩
  | 63 => ⟨S64, .i32⟩
  | 64 => ⟨S64, .i32⟩
  | 65 => ⟨S64, .i32⟩
  | 66 => ⟨S64x1, .i32⟩
  | 67 => ⟨S1, .i32⟩
  | 68 => ⟨S_, .i32⟩
  | 69 => ⟨S64x1, .i32⟩
  | 70 => ⟨S64x1, .i1⟩
  | 71 => ⟨S1x1, .i32⟩
  | 72 => ⟨S64x1, .i32⟩
  | 73 => ⟨S64x1, .i1⟩
  | 74 => ⟨S64x1, .i1⟩
  | 75 => ⟨S_, .i1⟩
  | 76 => ⟨S64, .i1⟩
  | 77 => ⟨S64x128x64, .f32⟩
  | 78 => ⟨S64x128x64, .i1⟩
  | 79 => ⟨S_, .f32⟩
  | 80 => ⟨S64x128x64, .f32⟩
  | 81 => ⟨S64x128x64, .f32⟩
  | 82 => ⟨S_, .i32⟩
  | 83 => ⟨S64, .i32⟩
  | 84 => ⟨S64, .i32⟩
  | 85 => ⟨S_, .i32⟩
  | 86 => ⟨S_, .i32⟩
  | 87 => ⟨S_, .i32⟩
  | 88 => ⟨S64, .i32⟩
  | 89 => ⟨S64, .i32⟩
  | 90 => ⟨S_, .i32⟩
  | 91 => ⟨S64, .i32⟩
  | 92 => ⟨S64, .i32⟩
  | 93 => ⟨S_, .i32⟩
  | 94 => ⟨S64, .i32⟩
  | 95 => ⟨S64, .i1⟩
  | 96 => ⟨S_, .i32⟩
  | 97 => ⟨S64, .i32⟩
  | 98 => ⟨S64, .i32⟩
  | 99 => ⟨S64, .i32⟩
  | 100 => ⟨S64x1, .i32⟩
  | 101 => ⟨S1, .i32⟩
  | 102 => ⟨S_, .i32⟩
  | 103 => ⟨S64x1, .i32⟩
  | 104 => ⟨S64x1, .i1⟩
  | 105 => ⟨S1x1, .i32⟩
  | 106 => ⟨S64x1, .i32⟩
  | 107 => ⟨S64x1, .i1⟩
  | 108 => ⟨S64x1, .i1⟩
  | 109 => ⟨S_, .i1⟩
  | 110 => ⟨S64, .i1⟩
  | 111 => ⟨S64x128x64, .f32⟩
  | 112 => ⟨S64x128x64, .i1⟩
  | 113 => ⟨S_, .f32⟩
  | 114 => ⟨S64x128x64, .f32⟩
  | 115 => ⟨S64x128x64, .f32⟩
  | 116 => ⟨S_, .f32⟩
  | 117 => ⟨S64, .f32⟩
  | 118 => ⟨S64, .f32⟩
  | 119 => ⟨S1x1x64, .f32⟩
  | 120 => ⟨S64x128x64, .f32⟩
  | 121 => ⟨S64x128x64, .f32⟩
  | 122 => ⟨S1x1x64, .f32⟩
  | 123 => ⟨S64x128x64, .f32⟩
  | 124 => ⟨S64x128x64, .f32⟩
  | 125 => ⟨S64x128x64, .f32⟩
  | 126 => ⟨S64x128x2048, .f32⟩
  | 127 => ⟨S8192x2048, .f32⟩
  | _ => ⟨S64x2048x128, .f32⟩

abbrev hbmTy0_1 (i : Nat) : BufTy := match i % 128 with
  | 0 => ⟨S8192x64, .f32⟩
  | 1 => ⟨S8192x64, .f32⟩
  | 2 => ⟨S8192x1x64, .f32⟩
  | 3 => ⟨S8192x2048x1, .f32⟩
  | 4 => ⟨S8192x2048x64, .f32⟩
  | 5 => ⟨S8192x2048x64, .f32⟩
  | 6 => ⟨S8192x2048x64, .i1⟩
  | 7 => ⟨S8192x2048x64, .i32⟩
  | 8 => ⟨S_, .i32⟩
  | 9 => ⟨S8192x2048, .i32⟩
  | 10 => ⟨S_, .i32⟩
  | 11 => ⟨S_, .i32⟩
  | 12 => ⟨S_, .i32⟩
  | 13 => ⟨S8192x2048, .i32⟩
  | 14 => ⟨S8192x2048, .i32⟩
  | 15 => ⟨S_, .i32⟩
  | 16 => ⟨S8192x2048, .i32⟩
  | 17 => ⟨S8192x2048, .i32⟩
  | 18 => ⟨S_, .i32⟩
  | 19 => ⟨S8192x2048, .i32⟩
  | 20 => ⟨S8192x2048, .i32⟩
  | 21 => ⟨S_, .i32⟩
  | 22 => ⟨S8192x2048, .i32⟩
  | 23 => ⟨S8192x2048, .i1⟩
  | 24 => ⟨S_, .i32⟩
  | 25 => ⟨S8192x2048, .i32⟩
  | 26 => ⟨S8192x2048, .i32⟩
  | 27 => ⟨S8192x2048, .i32⟩
  | 28 => ⟨S8192x2048x1, .i32⟩
  | 29 => ⟨S1, .i32⟩
  | 30 => ⟨S_, .i32⟩
  | 31 => ⟨S8192x2048x1, .i32⟩
  | 32 => ⟨S8192x2048x1, .i1⟩
  | 33 => ⟨S1x1x1, .i32⟩
  | 34 => ⟨S8192x2048x1, .i32⟩
  | 35 => ⟨S8192x2048x1, .i1⟩
  | 36 => ⟨S8192x2048x1, .i1⟩
  | 37 => ⟨S_, .i1⟩
  | 38 => ⟨S8192x2048, .i1⟩
  | 39 => ⟨S8192x2048, .f32⟩
  | 40 => ⟨S_, .f32⟩
  | 41 => ⟨S8192x2048, .f32⟩
  | 42 => ⟨S8192x2048, .f32⟩
  | 43 => ⟨S_, .i32⟩
  | 44 => ⟨S8192x2048, .i32⟩
  | 45 => ⟨S8192x2048, .i1⟩
  | 46 => ⟨S_, .i32⟩
  | 47 => ⟨S8192x2048, .i32⟩
  | 48 => ⟨S8192x2048, .i32⟩
  | 49 => ⟨S8192x2048, .i32⟩
  | 50 => ⟨S8192x2048x1, .i32⟩
  | 51 => ⟨S1, .i32⟩
  | 52 => ⟨S_, .i32⟩
  | 53 => ⟨S8192x2048x1, .i32⟩
  | 54 => ⟨S8192x2048x1, .i1⟩
  | 55 => ⟨S1x1x1, .i32⟩
  | 56 => ⟨S8192x2048x1, .i32⟩
  | 57 => ⟨S8192x2048x1, .i1⟩
  | 58 => ⟨S8192x2048x1, .i1⟩
  | 59 => ⟨S_, .i1⟩
  | 60 => ⟨S8192x2048, .i1⟩
  | 61 => ⟨S8192x2048, .f32⟩
  | 62 => ⟨S_, .f32⟩
  | 63 => ⟨S8192x2048, .f32⟩
  | 64 => ⟨S8192x2048, .f32⟩
  | 65 => ⟨S_, .i32⟩
  | 66 => ⟨S8192x2048, .i32⟩
  | 67 => ⟨S8192x2048, .i32⟩
  | 68 => ⟨S_, .i32⟩
  | 69 => ⟨S8192x2048, .i32⟩
  | 70 => ⟨S8192x2048, .i1⟩
  | 71 => ⟨S_, .i32⟩
  | 72 => ⟨S8192x2048, .i32⟩
  | 73 => ⟨S8192x2048, .i32⟩
  | 74 => ⟨S8192x2048, .i32⟩
  | 75 => ⟨S8192x2048x1, .i32⟩
  | 76 => ⟨S1, .i32⟩
  | 77 => ⟨S_, .i32⟩
  | 78 => ⟨S8192x2048x1, .i32⟩
  | 79 => ⟨S8192x2048x1, .i1⟩
  | 80 => ⟨S1x1x1, .i32⟩
  | 81 => ⟨S8192x2048x1, .i32⟩
  | 82 => ⟨S8192x2048x1, .i1⟩
  | 83 => ⟨S8192x2048x1, .i1⟩
  | 84 => ⟨S_, .i1⟩
  | 85 => ⟨S8192x2048, .i1⟩
  | 86 => ⟨S8192x2048, .f32⟩
  | 87 => ⟨S_, .f32⟩
  | 88 => ⟨S8192x2048, .f32⟩
  | 89 => ⟨S8192x2048, .f32⟩
  | 90 => ⟨S_, .i32⟩
  | 91 => ⟨S8192x2048, .i32⟩
  | 92 => ⟨S8192x2048, .i1⟩
  | 93 => ⟨S_, .i32⟩
  | 94 => ⟨S8192x2048, .i32⟩
  | 95 => ⟨S8192x2048, .i32⟩
  | 96 => ⟨S8192x2048, .i32⟩
  | 97 => ⟨S8192x2048x1, .i32⟩
  | 98 => ⟨S1, .i32⟩
  | 99 => ⟨S_, .i32⟩
  | 100 => ⟨S8192x2048x1, .i32⟩
  | 101 => ⟨S8192x2048x1, .i1⟩
  | 102 => ⟨S1x1x1, .i32⟩
  | 103 => ⟨S8192x2048x1, .i32⟩
  | 104 => ⟨S8192x2048x1, .i1⟩
  | 105 => ⟨S8192x2048x1, .i1⟩
  | 106 => ⟨S_, .i1⟩
  | 107 => ⟨S8192x2048, .i1⟩
  | 108 => ⟨S8192x2048, .f32⟩
  | 109 => ⟨S_, .f32⟩
  | 110 => ⟨S8192x2048, .f32⟩
  | 111 => ⟨S8192x2048, .f32⟩
  | 112 => ⟨S8192x2048, .f32⟩
  | 113 => ⟨S8192x2048, .f32⟩
  | 114 => ⟨S_, .f32⟩
  | 115 => ⟨S8192x2048, .f32⟩
  | 116 => ⟨S8192x2048, .f32⟩
  | 117 => ⟨S8192x2048, .f32⟩
  | 118 => ⟨S8192x2048, .f32⟩
  | 119 => ⟨S8192x2048, .f32⟩
  | 120 => ⟨S8192x2048, .f32⟩
  | 121 => ⟨S_, .f32⟩
  | 122 => ⟨S_, .f32⟩
  | 123 => ⟨S_, .f32⟩
  | 124 => ⟨S8192x2048, .f32⟩
  | 125 => ⟨S8192x2048, .f32⟩
  | 126 => ⟨S_, .f32⟩
  | 127 => ⟨S8192x2048, .f32⟩
  | _ => ⟨S64x2048x128, .f32⟩

abbrev hbmTy0_2 (i : Nat) : BufTy := match i % 128 with
  | 0 => ⟨S8192x2048, .f32⟩
  | 1 => ⟨S_, .f32⟩
  | 2 => ⟨S_, .f32⟩
  | 3 => ⟨S_, .f32⟩
  | 4 => ⟨S8192x2048, .f32⟩
  | 5 => ⟨S8192x2048, .f32⟩
  | 6 => ⟨S_, .f32⟩
  | 7 => ⟨S8192x2048, .f32⟩
  | 8 => ⟨S8192x2048, .f32⟩
  | 9 => ⟨S_, .f32⟩
  | 10 => ⟨S8192x2048, .f32⟩
  | 11 => ⟨S8192x2048, .f32⟩
  | 12 => ⟨S_, .f32⟩
  | 13 => ⟨S8192x2048, .f32⟩
  | 14 => ⟨S8192x2048, .f32⟩
  | 15 => ⟨S8192x2048, .f32⟩
  | 16 => ⟨S8192x2048, .f32⟩
  | 17 => ⟨S8192x2048, .f32⟩
  | 18 => ⟨S8192x2048, .f32⟩
  | 19 => ⟨S_, .f32⟩
  | 20 => ⟨S8192x2048, .f32⟩
  | 21 => ⟨S8192x2048, .i1⟩
  | 22 => ⟨S_, .f32⟩
  | 23 => ⟨S8192x2048, .f32⟩
  | 24 => ⟨S8192x2048, .f32⟩
  | 25 => ⟨S8192x2048, .f32⟩
  | 26 => ⟨S_, .f32⟩
  | 27 => ⟨S8192x2048, .f32⟩
  | 28 => ⟨S8192x2048, .f32⟩
  | 29 => ⟨S8192x2048, .f32⟩
  | 30 => ⟨S_, .f32⟩
  | 31 => ⟨S_, .f32⟩
  | 32 => ⟨S8192x2048, .f32⟩
  | 33 => ⟨S8192x2048, .f32⟩
  | 34 => ⟨S8192x2048, .f32⟩
  | 35 => ⟨S_, .f32⟩
  | 36 => ⟨S_, .f32⟩
  | 37 => ⟨S8192x2048, .f32⟩
  | 38 => ⟨S8192x2048, .f32⟩
  | 39 => ⟨S8192x2048, .f32⟩
  | 40 => ⟨S8192x2048, .f32⟩
  | 41 => ⟨S8192x2048, .f32⟩
  | 42 => ⟨S8192x2048, .f32⟩
  | 43 => ⟨S8192x2048, .f32⟩
  | 44 => ⟨S_, .f32⟩
  | 45 => ⟨S_, .f32⟩
  | 46 => ⟨S8192x2048, .f32⟩
  | 47 => ⟨S8192x2048, .f32⟩
  | 48 => ⟨S8192x2048, .f32⟩
  | 49 => ⟨S8192x2048, .f32⟩
  | 50 => ⟨S8192x2048, .f32⟩
  | 51 => ⟨S8192x2048, .f32⟩
  | 52 => ⟨S_, .f32⟩
  | 53 => ⟨S_, .f32⟩
  | 54 => ⟨S8192x2048, .f32⟩
  | 55 => ⟨S8192x2048, .f32⟩
  | 56 => ⟨S8192x2048, .f32⟩
  | 57 => ⟨S8192x2048, .f32⟩
  | 58 => ⟨S8192x2048, .f32⟩
  | 59 => ⟨S8192x2048, .f32⟩
  | 60 => ⟨S_, .f32⟩
  | 61 => ⟨S_, .f32⟩
  | 62 => ⟨S8192x2048, .f32⟩
  | 63 => ⟨S8192x2048, .f32⟩
  | 64 => ⟨S8192x2048, .f32⟩
  | 65 => ⟨S8192x2048, .f32⟩
  | 66 => ⟨S8192x2048, .f32⟩
  | 67 => ⟨S8192x2048, .f32⟩
  | 68 => ⟨S_, .f32⟩
  | 69 => ⟨S_, .f32⟩
  | 70 => ⟨S8192x2048, .f32⟩
  | 71 => ⟨S8192x2048, .f32⟩
  | 72 => ⟨S8192x2048, .f32⟩
  | 73 => ⟨S8192x2048, .f32⟩
  | 74 => ⟨S8192x2048, .f32⟩
  | 75 => ⟨S8192x2048, .f32⟩
  | 76 => ⟨S_, .f32⟩
  | 77 => ⟨S_, .f32⟩
  | 78 => ⟨S8192x2048, .f32⟩
  | 79 => ⟨S8192x2048, .f32⟩
  | 80 => ⟨S8192x2048, .f32⟩
  | 81 => ⟨S8192x2048, .f32⟩
  | 82 => ⟨S8192x2048, .f32⟩
  | 83 => ⟨S8192x2048, .f32⟩
  | 84 => ⟨S_, .f32⟩
  | 85 => ⟨S_, .f32⟩
  | 86 => ⟨S8192x2048, .f32⟩
  | 87 => ⟨S8192x2048, .f32⟩
  | 88 => ⟨S8192x2048, .f32⟩
  | 89 => ⟨S8192x2048, .f32⟩
  | 90 => ⟨S8192x2048, .f32⟩
  | 91 => ⟨S8192x2048, .f32⟩
  | 92 => ⟨S_, .f32⟩
  | 93 => ⟨S_, .f32⟩
  | 94 => ⟨S8192x2048, .f32⟩
  | 95 => ⟨S8192x2048, .f32⟩
  | 96 => ⟨S8192x2048, .f32⟩
  | 97 => ⟨S8192x2048, .f32⟩
  | 98 => ⟨S8192x2048, .f32⟩
  | 99 => ⟨S8192x2048, .f32⟩
  | 100 => ⟨S8192x2048, .f32⟩
  | 101 => ⟨S_, .f32⟩
  | 102 => ⟨S8192x2048, .f32⟩
  | 103 => ⟨S8192x2048, .f32⟩
  | 104 => ⟨S64x128x2048, .f32⟩
  | 105 => ⟨S64x2048x128, .f32⟩
  | _ => ⟨S64x2048x128, .f32⟩

abbrev hbmTy (i : Nat) : BufTy := match i / 128 with
  | 0 => hbmTy0_0 i
  | 1 => hbmTy0_1 i
  | 2 => hbmTy0_2 i
  | _ => ⟨S64x2048x128, .f32⟩

abbrev bufTy : (tb : Table) → Fin (tcTables nBuf tb) → BufTy
  | .hbm, ⟨i, _⟩ => hbmTy i
  | _, _ => ⟨S64x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_v1 : Ref sig .tc := ⟨.hbm, 24, rfl⟩
abbrev main_cst_1 : Ref sig .tc := ⟨.hbm, 25, rfl⟩
abbrev main_v2 : Ref sig .tc := ⟨.hbm, 26, rfl⟩
abbrev main_v3 : Ref sig .tc := ⟨.hbm, 27, rfl⟩
abbrev main_cst_2 : Ref sig .tc := ⟨.hbm, 28, rfl⟩
abbrev main_v4 : Ref sig .tc := ⟨.hbm, 29, rfl⟩
abbrev main_v5 : Ref sig .tc := ⟨.hbm, 30, rfl⟩
abbrev main_cst_3 : Ref sig .tc := ⟨.hbm, 31, rfl⟩
abbrev main_cst_4 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v6 : Ref sig .tc := ⟨.hbm, 38, rfl⟩
abbrev main_v7 : Ref sig .tc := ⟨.hbm, 39, rfl⟩
abbrev main_c : Ref sig .tc := ⟨.hbm, 40, rfl⟩
abbrev main_c_5 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst_6 : Ref sig .tc := ⟨.hbm, 50, rfl⟩
abbrev main_cst_7 : Ref sig .tc := ⟨.hbm, 51, rfl⟩
abbrev main_call4_v0 : Ref sig .tc := ⟨.hbm, 52, rfl⟩
abbrev main_call4_v1 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_v11 : Ref sig .tc := ⟨.hbm, 57, rfl⟩
abbrev main_v12 : Ref sig .tc := ⟨.hbm, 58, rfl⟩
abbrev main_call5_c : Ref sig .tc := ⟨.hbm, 59, rfl⟩
abbrev main_call5_v0 : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_v5 : Ref sig .tc := ⟨.hbm, 66, rfl⟩
abbrev main_call5_c_1 : Ref sig .tc := ⟨.hbm, 67, rfl⟩
abbrev main_call5_c_2 : Ref sig .tc := ⟨.hbm, 68, rfl⟩
abbrev main_call5_v6 : Ref sig .tc := ⟨.hbm, 69, rfl⟩
abbrev main_call5_v7 : Ref sig .tc := ⟨.hbm, 70, rfl⟩
abbrev main_call5_v8 : Ref sig .tc := ⟨.hbm, 71, rfl⟩
abbrev main_call5_v9 : Ref sig .tc := ⟨.hbm, 72, rfl⟩
abbrev main_call5_v10 : Ref sig .tc := ⟨.hbm, 73, rfl⟩
abbrev main_call5_v11 : Ref sig .tc := ⟨.hbm, 74, rfl⟩
abbrev main_call5_c_3 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_call5_cst : Ref sig .tc := ⟨.hbm, 79, rfl⟩
abbrev main_call5_v15 : Ref sig .tc := ⟨.hbm, 80, rfl⟩
abbrev main_v13 : Ref sig .tc := ⟨.hbm, 81, rfl⟩
abbrev main_c_8 : Ref sig .tc := ⟨.hbm, 82, rfl⟩
abbrev main_v14 : Ref sig .tc := ⟨.hbm, 83, rfl⟩
abbrev main_v15 : Ref sig .tc := ⟨.hbm, 84, rfl⟩
abbrev main_c_9 : Ref sig .tc := ⟨.hbm, 85, rfl⟩
abbrev main_c_10 : Ref sig .tc := ⟨.hbm, 86, rfl⟩
abbrev main_call6_v0 : Ref sig .tc := ⟨.hbm, 87, rfl⟩
abbrev main_call6_v1 : Ref sig .tc := ⟨.hbm, 88, rfl⟩
abbrev main_call6_v2 : Ref sig .tc := ⟨.hbm, 89, rfl⟩
abbrev main_call6_v3 : Ref sig .tc := ⟨.hbm, 90, rfl⟩
abbrev main_call6_v4 : Ref sig .tc := ⟨.hbm, 91, rfl⟩
abbrev main_v16 : Ref sig .tc := ⟨.hbm, 92, rfl⟩
abbrev main_call7_c : Ref sig .tc := ⟨.hbm, 93, rfl⟩
abbrev main_call7_v0 : Ref sig .tc := ⟨.hbm, 94, rfl⟩
abbrev main_call7_v1 : Ref sig .tc := ⟨.hbm, 95, rfl⟩
abbrev main_call7_c_0 : Ref sig .tc := ⟨.hbm, 96, rfl⟩
abbrev main_call7_v2 : Ref sig .tc := ⟨.hbm, 97, rfl⟩
abbrev main_call7_v3 : Ref sig .tc := ⟨.hbm, 98, rfl⟩
abbrev main_call7_v4 : Ref sig .tc := ⟨.hbm, 99, rfl⟩
abbrev main_call7_v5 : Ref sig .tc := ⟨.hbm, 100, rfl⟩
abbrev main_call7_c_1 : Ref sig .tc := ⟨.hbm, 101, rfl⟩
abbrev main_call7_c_2 : Ref sig .tc := ⟨.hbm, 102, rfl⟩
abbrev main_call7_v6 : Ref sig .tc := ⟨.hbm, 103, rfl⟩
abbrev main_call7_v7 : Ref sig .tc := ⟨.hbm, 104, rfl⟩
abbrev main_call7_v8 : Ref sig .tc := ⟨.hbm, 105, rfl⟩
abbrev main_call7_v9 : Ref sig .tc := ⟨.hbm, 106, rfl⟩
abbrev main_call7_v10 : Ref sig .tc := ⟨.hbm, 107, rfl⟩
abbrev main_call7_v11 : Ref sig .tc := ⟨.hbm, 108, rfl⟩
abbrev main_call7_c_3 : Ref sig .tc := ⟨.hbm, 109, rfl⟩
abbrev main_call7_v12 : Ref sig .tc := ⟨.hbm, 110, rfl⟩
abbrev main_call7_v13 : Ref sig .tc := ⟨.hbm, 111, rfl⟩
abbrev main_call7_v14 : Ref sig .tc := ⟨.hbm, 112, rfl⟩
abbrev main_call7_cst : Ref sig .tc := ⟨.hbm, 113, rfl⟩
abbrev main_call7_v15 : Ref sig .tc := ⟨.hbm, 114, rfl⟩
abbrev main_v17 : Ref sig .tc := ⟨.hbm, 115, rfl⟩
abbrev main_cst_11 : Ref sig .tc := ⟨.hbm, 116, rfl⟩
abbrev main_v18 : Ref sig .tc := ⟨.hbm, 117, rfl⟩
abbrev main_v19 : Ref sig .tc := ⟨.hbm, 118, rfl⟩
abbrev main_v20 : Ref sig .tc := ⟨.hbm, 119, rfl⟩
abbrev main_v21 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_v30 : Ref sig .tc := ⟨.hbm, 129, rfl⟩
abbrev main_v31 : Ref sig .tc := ⟨.hbm, 130, rfl⟩
abbrev main_v32 : Ref sig .tc := ⟨.hbm, 131, rfl⟩
abbrev main_v33 : Ref sig .tc := ⟨.hbm, 132, rfl⟩
abbrev main_v34 : Ref sig .tc := ⟨.hbm, 133, rfl⟩
abbrev main_v35 : Ref sig .tc := ⟨.hbm, 134, rfl⟩
abbrev main_v36 : Ref sig .tc := ⟨.hbm, 135, rfl⟩
abbrev main_c_12 : Ref sig .tc := ⟨.hbm, 136, rfl⟩
abbrev main_v37 : Ref sig .tc := ⟨.hbm, 137, rfl⟩
abbrev main_c_13 : Ref sig .tc := ⟨.hbm, 138, rfl⟩
abbrev main_c_14 : Ref sig .tc := ⟨.hbm, 139, rfl⟩
abbrev main_call8_v0 : Ref sig .tc := ⟨.hbm, 140, rfl⟩
abbrev main_call8_v1 : Ref sig .tc := ⟨.hbm, 141, rfl⟩
abbrev main_call8_v2 : Ref sig .tc := ⟨.hbm, 142, rfl⟩
abbrev main_call8_v3 : Ref sig .tc := ⟨.hbm, 143, rfl⟩
abbrev main_call8_v4 : Ref sig .tc := ⟨.hbm, 144, rfl⟩
abbrev main_v38 : Ref sig .tc := ⟨.hbm, 145, rfl⟩
abbrev main_c_15 : Ref sig .tc := ⟨.hbm, 146, rfl⟩
abbrev main_v39 : Ref sig .tc := ⟨.hbm, 147, rfl⟩
abbrev main_v40 : Ref sig .tc := ⟨.hbm, 148, rfl⟩
abbrev main_call9_c : Ref sig .tc := ⟨.hbm, 149, rfl⟩
abbrev main_call9_v0 : Ref sig .tc := ⟨.hbm, 150, rfl⟩
abbrev main_call9_v1 : Ref sig .tc := ⟨.hbm, 151, rfl⟩
abbrev main_call9_c_0 : Ref sig .tc := ⟨.hbm, 152, rfl⟩
abbrev main_call9_v2 : Ref sig .tc := ⟨.hbm, 153, rfl⟩
abbrev main_call9_v3 : Ref sig .tc := ⟨.hbm, 154, rfl⟩
abbrev main_call9_v4 : Ref sig .tc := ⟨.hbm, 155, rfl⟩
abbrev main_call9_v5 : Ref sig .tc := ⟨.hbm, 156, rfl⟩
abbrev main_call9_c_1 : Ref sig .tc := ⟨.hbm, 157, rfl⟩
abbrev main_call9_c_2 : Ref sig .tc := ⟨.hbm, 158, rfl⟩
abbrev main_call9_v6 : Ref sig .tc := ⟨.hbm, 159, rfl⟩
abbrev main_call9_v7 : Ref sig .tc := ⟨.hbm, 160, rfl⟩
abbrev main_call9_v8 : Ref sig .tc := ⟨.hbm, 161, rfl⟩
abbrev main_call9_v9 : Ref sig .tc := ⟨.hbm, 162, rfl⟩
abbrev main_call9_v10 : Ref sig .tc := ⟨.hbm, 163, rfl⟩
abbrev main_call9_v11 : Ref sig .tc := ⟨.hbm, 164, rfl⟩
abbrev main_call9_c_3 : Ref sig .tc := ⟨.hbm, 165, rfl⟩
abbrev main_call9_v12 : Ref sig .tc := ⟨.hbm, 166, rfl⟩
abbrev main_call9_v13 : Ref sig .tc := ⟨.hbm, 167, rfl⟩
abbrev main_call9_cst : Ref sig .tc := ⟨.hbm, 168, rfl⟩
abbrev main_call9_v14 : Ref sig .tc := ⟨.hbm, 169, rfl⟩
abbrev main_v41 : Ref sig .tc := ⟨.hbm, 170, rfl⟩
abbrev main_call10_c : Ref sig .tc := ⟨.hbm, 171, rfl⟩
abbrev main_call10_v0 : Ref sig .tc := ⟨.hbm, 172, rfl⟩
abbrev main_call10_v1 : Ref sig .tc := ⟨.hbm, 173, rfl⟩
abbrev main_call10_c_0 : Ref sig .tc := ⟨.hbm, 174, rfl⟩
abbrev main_call10_v2 : Ref sig .tc := ⟨.hbm, 175, rfl⟩
abbrev main_call10_v3 : Ref sig .tc := ⟨.hbm, 176, rfl⟩
abbrev main_call10_v4 : Ref sig .tc := ⟨.hbm, 177, rfl⟩
abbrev main_call10_v5 : Ref sig .tc := ⟨.hbm, 178, rfl⟩
abbrev main_call10_c_1 : Ref sig .tc := ⟨.hbm, 179, rfl⟩
abbrev main_call10_c_2 : Ref sig .tc := ⟨.hbm, 180, rfl⟩
abbrev main_call10_v6 : Ref sig .tc := ⟨.hbm, 181, rfl⟩
abbrev main_call10_v7 : Ref sig .tc := ⟨.hbm, 182, rfl⟩
abbrev main_call10_v8 : Ref sig .tc := ⟨.hbm, 183, rfl⟩
abbrev main_call10_v9 : Ref sig .tc := ⟨.hbm, 184, rfl⟩
abbrev main_call10_v10 : Ref sig .tc := ⟨.hbm, 185, rfl⟩
abbrev main_call10_v11 : Ref sig .tc := ⟨.hbm, 186, rfl⟩
abbrev main_call10_c_3 : Ref sig .tc := ⟨.hbm, 187, rfl⟩
abbrev main_call10_v12 : Ref sig .tc := ⟨.hbm, 188, rfl⟩
abbrev main_call10_v13 : Ref sig .tc := ⟨.hbm, 189, rfl⟩
abbrev main_call10_cst : Ref sig .tc := ⟨.hbm, 190, rfl⟩
abbrev main_call10_v14 : Ref sig .tc := ⟨.hbm, 191, rfl⟩
abbrev main_v42 : Ref sig .tc := ⟨.hbm, 192, rfl⟩
abbrev main_c_16 : Ref sig .tc := ⟨.hbm, 193, rfl⟩
abbrev main_v43 : Ref sig .tc := ⟨.hbm, 194, rfl⟩
abbrev main_v44 : Ref sig .tc := ⟨.hbm, 195, rfl⟩
abbrev main_call11_c : Ref sig .tc := ⟨.hbm, 196, rfl⟩
abbrev main_call11_v0 : Ref sig .tc := ⟨.hbm, 197, rfl⟩
abbrev main_call11_v1 : Ref sig .tc := ⟨.hbm, 198, rfl⟩
abbrev main_call11_c_0 : Ref sig .tc := ⟨.hbm, 199, rfl⟩
abbrev main_call11_v2 : Ref sig .tc := ⟨.hbm, 200, rfl⟩
abbrev main_call11_v3 : Ref sig .tc := ⟨.hbm, 201, rfl⟩
abbrev main_call11_v4 : Ref sig .tc := ⟨.hbm, 202, rfl⟩
abbrev main_call11_v5 : Ref sig .tc := ⟨.hbm, 203, rfl⟩
abbrev main_call11_c_1 : Ref sig .tc := ⟨.hbm, 204, rfl⟩
abbrev main_call11_c_2 : Ref sig .tc := ⟨.hbm, 205, rfl⟩
abbrev main_call11_v6 : Ref sig .tc := ⟨.hbm, 206, rfl⟩
abbrev main_call11_v7 : Ref sig .tc := ⟨.hbm, 207, rfl⟩
abbrev main_call11_v8 : Ref sig .tc := ⟨.hbm, 208, rfl⟩
abbrev main_call11_v9 : Ref sig .tc := ⟨.hbm, 209, rfl⟩
abbrev main_call11_v10 : Ref sig .tc := ⟨.hbm, 210, rfl⟩
abbrev main_call11_v11 : Ref sig .tc := ⟨.hbm, 211, rfl⟩
abbrev main_call11_c_3 : Ref sig .tc := ⟨.hbm, 212, rfl⟩
abbrev main_call11_v12 : Ref sig .tc := ⟨.hbm, 213, rfl⟩
abbrev main_call11_v13 : Ref sig .tc := ⟨.hbm, 214, rfl⟩
abbrev main_call11_cst : Ref sig .tc := ⟨.hbm, 215, rfl⟩
abbrev main_call11_v14 : Ref sig .tc := ⟨.hbm, 216, rfl⟩
abbrev main_v45 : Ref sig .tc := ⟨.hbm, 217, rfl⟩
abbrev main_call12_c : Ref sig .tc := ⟨.hbm, 218, rfl⟩
abbrev main_call12_v0 : Ref sig .tc := ⟨.hbm, 219, rfl⟩
abbrev main_call12_v1 : Ref sig .tc := ⟨.hbm, 220, rfl⟩
abbrev main_call12_c_0 : Ref sig .tc := ⟨.hbm, 221, rfl⟩
abbrev main_call12_v2 : Ref sig .tc := ⟨.hbm, 222, rfl⟩
abbrev main_call12_v3 : Ref sig .tc := ⟨.hbm, 223, rfl⟩
abbrev main_call12_v4 : Ref sig .tc := ⟨.hbm, 224, rfl⟩
abbrev main_call12_v5 : Ref sig .tc := ⟨.hbm, 225, rfl⟩
abbrev main_call12_c_1 : Ref sig .tc := ⟨.hbm, 226, rfl⟩
abbrev main_call12_c_2 : Ref sig .tc := ⟨.hbm, 227, rfl⟩
abbrev main_call12_v6 : Ref sig .tc := ⟨.hbm, 228, rfl⟩
abbrev main_call12_v7 : Ref sig .tc := ⟨.hbm, 229, rfl⟩
abbrev main_call12_v8 : Ref sig .tc := ⟨.hbm, 230, rfl⟩
abbrev main_call12_v9 : Ref sig .tc := ⟨.hbm, 231, rfl⟩
abbrev main_call12_v10 : Ref sig .tc := ⟨.hbm, 232, rfl⟩
abbrev main_call12_v11 : Ref sig .tc := ⟨.hbm, 233, rfl⟩
abbrev main_call12_c_3 : Ref sig .tc := ⟨.hbm, 234, rfl⟩
abbrev main_call12_v12 : Ref sig .tc := ⟨.hbm, 235, rfl⟩
abbrev main_call12_v13 : Ref sig .tc := ⟨.hbm, 236, rfl⟩
abbrev main_call12_cst : Ref sig .tc := ⟨.hbm, 237, rfl⟩
abbrev main_call12_v14 : Ref sig .tc := ⟨.hbm, 238, rfl⟩
abbrev main_v46 : Ref sig .tc := ⟨.hbm, 239, rfl⟩
abbrev main_v47 : Ref sig .tc := ⟨.hbm, 240, rfl⟩
abbrev main_v48 : Ref sig .tc := ⟨.hbm, 241, rfl⟩
abbrev main_cst_17 : Ref sig .tc := ⟨.hbm, 242, rfl⟩
abbrev main_v49 : Ref sig .tc := ⟨.hbm, 243, rfl⟩
abbrev main_v50 : Ref sig .tc := ⟨.hbm, 244, rfl⟩
abbrev main_v51 : Ref sig .tc := ⟨.hbm, 245, rfl⟩
abbrev main_v52 : Ref sig .tc := ⟨.hbm, 246, rfl⟩
abbrev main_v53 : Ref sig .tc := ⟨.hbm, 247, rfl⟩
abbrev main_v54 : Ref sig .tc := ⟨.hbm, 248, rfl⟩
abbrev main_cst_18 : Ref sig .tc := ⟨.hbm, 249, rfl⟩
abbrev main_cst_19 : Ref sig .tc := ⟨.hbm, 250, rfl⟩
abbrev main_call13_v0 : Ref sig .tc := ⟨.hbm, 251, rfl⟩
abbrev main_call13_v1 : Ref sig .tc := ⟨.hbm, 252, rfl⟩
abbrev main_call13_v2 : Ref sig .tc := ⟨.hbm, 253, rfl⟩
abbrev main_call13_v3 : Ref sig .tc := ⟨.hbm, 254, rfl⟩
abbrev main_call13_v4 : Ref sig .tc := ⟨.hbm, 255, rfl⟩
abbrev main_v55 : Ref sig .tc := ⟨.hbm, 256, rfl⟩
abbrev main_cst_20 : Ref sig .tc := ⟨.hbm, 257, rfl⟩
abbrev main_cst_21 : Ref sig .tc := ⟨.hbm, 258, rfl⟩
abbrev main_call14_v0 : Ref sig .tc := ⟨.hbm, 259, rfl⟩
abbrev main_call14_v1 : Ref sig .tc := ⟨.hbm, 260, rfl⟩
abbrev main_call14_v2 : Ref sig .tc := ⟨.hbm, 261, rfl⟩
abbrev main_call14_v3 : Ref sig .tc := ⟨.hbm, 262, rfl⟩
abbrev main_call14_v4 : Ref sig .tc := ⟨.hbm, 263, rfl⟩
abbrev main_v56 : Ref sig .tc := ⟨.hbm, 264, rfl⟩
abbrev main_cst_22 : Ref sig .tc := ⟨.hbm, 265, rfl⟩
abbrev main_v57 : Ref sig .tc := ⟨.hbm, 266, rfl⟩
abbrev main_v58 : Ref sig .tc := ⟨.hbm, 267, rfl⟩
abbrev main_cst_23 : Ref sig .tc := ⟨.hbm, 268, rfl⟩
abbrev main_v59 : Ref sig .tc := ⟨.hbm, 269, rfl⟩
abbrev main_v60 : Ref sig .tc := ⟨.hbm, 270, rfl⟩
abbrev main_v61 : Ref sig .tc := ⟨.hbm, 271, rfl⟩
abbrev main_v62 : Ref sig .tc := ⟨.hbm, 272, rfl⟩
abbrev main_v63 : Ref sig .tc := ⟨.hbm, 273, rfl⟩
abbrev main_v64 : Ref sig .tc := ⟨.hbm, 274, rfl⟩
abbrev main_cst_24 : Ref sig .tc := ⟨.hbm, 275, rfl⟩
abbrev main_v65 : Ref sig .tc := ⟨.hbm, 276, rfl⟩
abbrev main_v66 : Ref sig .tc := ⟨.hbm, 277, rfl⟩
abbrev main_cst_25 : Ref sig .tc := ⟨.hbm, 278, rfl⟩
abbrev main_v67 : Ref sig .tc := ⟨.hbm, 279, rfl⟩
abbrev main_v68 : Ref sig .tc := ⟨.hbm, 280, rfl⟩
abbrev main_v69 : Ref sig .tc := ⟨.hbm, 281, rfl⟩
abbrev main_cst_26 : Ref sig .tc := ⟨.hbm, 282, rfl⟩
abbrev main_v70 : Ref sig .tc := ⟨.hbm, 283, rfl⟩
abbrev main_v71 : Ref sig .tc := ⟨.hbm, 284, rfl⟩
abbrev main_v72 : Ref sig .tc := ⟨.hbm, 285, rfl⟩
abbrev main_cst_27 : Ref sig .tc := ⟨.hbm, 286, rfl⟩
abbrev main_cst_28 : Ref sig .tc := ⟨.hbm, 287, rfl⟩
abbrev main_call16_v0 : Ref sig .tc := ⟨.hbm, 288, rfl⟩
abbrev main_call16_v1 : Ref sig .tc := ⟨.hbm, 289, rfl⟩
abbrev main_v73 : Ref sig .tc := ⟨.hbm, 290, rfl⟩
abbrev main_cst_29 : Ref sig .tc := ⟨.hbm, 291, rfl⟩
abbrev main_cst_30 : Ref sig .tc := ⟨.hbm, 292, rfl⟩
abbrev main_call17_v0 : Ref sig .tc := ⟨.hbm, 293, rfl⟩
abbrev main_call17_v1 : Ref sig .tc := ⟨.hbm, 294, rfl⟩
abbrev main_v74 : Ref sig .tc := ⟨.hbm, 295, rfl⟩
abbrev main_v75 : Ref sig .tc := ⟨.hbm, 296, rfl⟩
abbrev main_v76 : Ref sig .tc := ⟨.hbm, 297, rfl⟩
abbrev main_v77 : Ref sig .tc := ⟨.hbm, 298, rfl⟩
abbrev main_v78 : Ref sig .tc := ⟨.hbm, 299, rfl⟩
abbrev main_cst_31 : Ref sig .tc := ⟨.hbm, 300, rfl⟩
abbrev main_cst_32 : Ref sig .tc := ⟨.hbm, 301, rfl⟩
abbrev main_call18_v0 : Ref sig .tc := ⟨.hbm, 302, rfl⟩
abbrev main_call18_v1 : Ref sig .tc := ⟨.hbm, 303, rfl⟩
abbrev main_v79 : Ref sig .tc := ⟨.hbm, 304, rfl⟩
abbrev main_v80 : Ref sig .tc := ⟨.hbm, 305, rfl⟩
abbrev main_v81 : Ref sig .tc := ⟨.hbm, 306, rfl⟩
abbrev main_v82 : Ref sig .tc := ⟨.hbm, 307, rfl⟩
abbrev main_cst_33 : Ref sig .tc := ⟨.hbm, 308, rfl⟩
abbrev main_cst_34 : Ref sig .tc := ⟨.hbm, 309, rfl⟩
abbrev main_call19_v0 : Ref sig .tc := ⟨.hbm, 310, rfl⟩
abbrev main_call19_v1 : Ref sig .tc := ⟨.hbm, 311, rfl⟩
abbrev main_v83 : Ref sig .tc := ⟨.hbm, 312, rfl⟩
abbrev main_v84 : Ref sig .tc := ⟨.hbm, 313, rfl⟩
abbrev main_v85 : Ref sig .tc := ⟨.hbm, 314, rfl⟩
abbrev main_v86 : Ref sig .tc := ⟨.hbm, 315, rfl⟩
abbrev main_cst_35 : Ref sig .tc := ⟨.hbm, 316, rfl⟩
abbrev main_cst_36 : Ref sig .tc := ⟨.hbm, 317, rfl⟩
abbrev main_call20_v0 : Ref sig .tc := ⟨.hbm, 318, rfl⟩
abbrev main_call20_v1 : Ref sig .tc := ⟨.hbm, 319, rfl⟩
abbrev main_v87 : Ref sig .tc := ⟨.hbm, 320, rfl⟩
abbrev main_v88 : Ref sig .tc := ⟨.hbm, 321, rfl⟩
abbrev main_v89 : Ref sig .tc := ⟨.hbm, 322, rfl⟩
abbrev main_v90 : Ref sig .tc := ⟨.hbm, 323, rfl⟩
abbrev main_cst_37 : Ref sig .tc := ⟨.hbm, 324, rfl⟩
abbrev main_cst_38 : Ref sig .tc := ⟨.hbm, 325, rfl⟩
abbrev main_call21_v0 : Ref sig .tc := ⟨.hbm, 326, rfl⟩
abbrev main_call21_v1 : Ref sig .tc := ⟨.hbm, 327, rfl⟩
abbrev main_v91 : Ref sig .tc := ⟨.hbm, 328, rfl⟩
abbrev main_v92 : Ref sig .tc := ⟨.hbm, 329, rfl⟩
abbrev main_v93 : Ref sig .tc := ⟨.hbm, 330, rfl⟩
abbrev main_v94 : Ref sig .tc := ⟨.hbm, 331, rfl⟩
abbrev main_cst_39 : Ref sig .tc := ⟨.hbm, 332, rfl⟩
abbrev main_cst_40 : Ref sig .tc := ⟨.hbm, 333, rfl⟩
abbrev main_call22_v0 : Ref sig .tc := ⟨.hbm, 334, rfl⟩
abbrev main_call22_v1 : Ref sig .tc := ⟨.hbm, 335, rfl⟩
abbrev main_v95 : Ref sig .tc := ⟨.hbm, 336, rfl⟩
abbrev main_v96 : Ref sig .tc := ⟨.hbm, 337, rfl⟩
abbrev main_v97 : Ref sig .tc := ⟨.hbm, 338, rfl⟩
abbrev main_v98 : Ref sig .tc := ⟨.hbm, 339, rfl⟩
abbrev main_cst_41 : Ref sig .tc := ⟨.hbm, 340, rfl⟩
abbrev main_cst_42 : Ref sig .tc := ⟨.hbm, 341, rfl⟩
abbrev main_call23_v0 : Ref sig .tc := ⟨.hbm, 342, rfl⟩
abbrev main_call23_v1 : Ref sig .tc := ⟨.hbm, 343, rfl⟩
abbrev main_v99 : Ref sig .tc := ⟨.hbm, 344, rfl⟩
abbrev main_v100 : Ref sig .tc := ⟨.hbm, 345, rfl⟩
abbrev main_v101 : Ref sig .tc := ⟨.hbm, 346, rfl⟩
abbrev main_v102 : Ref sig .tc := ⟨.hbm, 347, rfl⟩
abbrev main_cst_43 : Ref sig .tc := ⟨.hbm, 348, rfl⟩
abbrev main_cst_44 : Ref sig .tc := ⟨.hbm, 349, rfl⟩
abbrev main_call24_v0 : Ref sig .tc := ⟨.hbm, 350, rfl⟩
abbrev main_call24_v1 : Ref sig .tc := ⟨.hbm, 351, rfl⟩
abbrev main_v103 : Ref sig .tc := ⟨.hbm, 352, rfl⟩
abbrev main_v104 : Ref sig .tc := ⟨.hbm, 353, rfl⟩
abbrev main_v105 : Ref sig .tc := ⟨.hbm, 354, rfl⟩
abbrev main_v106 : Ref sig .tc := ⟨.hbm, 355, rfl⟩
abbrev main_v107 : Ref sig .tc := ⟨.hbm, 356, rfl⟩
abbrev main_cst_45 : Ref sig .tc := ⟨.hbm, 357, rfl⟩
abbrev main_v108 : Ref sig .tc := ⟨.hbm, 358, rfl⟩
abbrev main_v109 : Ref sig .tc := ⟨.hbm, 359, rfl⟩
abbrev main_v110 : Ref sig .tc := ⟨.hbm, 360, rfl⟩
abbrev main_v111 : Ref sig .tc := ⟨.hbm, 361, rfl⟩

abbrev nD : Nat := 1
abbrev τ : Topo := Topo.v7x

variable {F : FTy → Type} [FloatOps F]
-- ==== Proof.Units.lean ====
module

public import proofs.«01_k».proof.Proof.Gen.KernelIdeal.Value

@[expose] public section

set_option maxRecDepth 16384

noncomputable section

/-! # The steps of the kernel's sort, each written once

The kernel sorts the 2048 rows of a block column by column. It does so by compare-exchange steps of three forms: one
step between halves of a group of rows (`single`), two such steps at once (`pair`), and a step between the eight rows of
one group (`sublane`). Each form is stated here for every extent, with the facts its reshapes and slices need. -/

namespace Cert.KernelIdeal.Body

open Cert.KernelIdeal Idealize.ShloMosaic

variable {F : FTy → Type} [FloatOps F]

/-- `g` groups of two halves of `j` rows of eight, seen from 2048 rows. -/
abbrev U5 (g j : Nat) : Shape := ⟨5, ![g, 2, j, 8, 128]⟩
/-- One half of each group, still with its axis of extent one. -/
abbrev U5h (g j : Nat) : Shape := ⟨5, ![g, 1, j, 8, 128]⟩
/-- One half (or quarter) of each group. -/
abbrev U4 (g j : Nat) : Shape := ⟨4, ![g, j, 8, 128]⟩
/-- `g` groups of two times two quarters of `j` rows of eight. -/
abbrev U6 (g j : Nat) : Shape := ⟨6, ![g, 2, 2, j, 8, 128]⟩
/-- One quarter of each group, still with its axes of extent one. -/
abbrev U6q (g j : Nat) : Shape := ⟨6, ![g, 1, 1, j, 8, 128]⟩
/-- Four quarters of each group. -/
abbrev U5q (g j : Nat) : Shape := ⟨5, ![g, 4, j, 8, 128]⟩

/-- What the reshapes, slices and concatenation of a single step need. -/
structure SingleFacts (g j : Nat) : Prop where
  cast : S2048x128.ShapeCasts (U5 g j)
  sl0 : (U5 g j).Slices ![0, 0, 0, 0, 0] (U5h g j)
  sl1 : (U5 g j).Slices ![0, 1, 0, 0, 0] (U5h g j)
  drop : (U5h g j).ShapeCasts (U4 g j)
  add : (U4 g j).ShapeCasts (U5h g j)
  cat : Shape.Concatenates [U5h g j, U5h g j] (U5 g j) 1
  back : (U5 g j).ShapeCasts S2048x128

/-- What the reshapes, slices and concatenation of a double step need. -/
structure PairFacts (g j : Nat) : Prop where
  cast : S2048x128.ShapeCasts (U6 g j)
  sl00 : (U6 g j).Slices ![0, 0, 0, 0, 0, 0] (U6q g j)
  sl01 : (U6 g j).Slices ![0, 0, 1, 0, 0, 0] (U6q g j)
  sl10 : (U6 g j).Slices ![0, 1, 0, 0, 0, 0] (U6q g j)
  sl11 : (U6 g j).Slices ![0, 1, 1, 0, 0, 0] (U6q g j)
  drop : (U6q g j).ShapeCasts (U4 g j)
  add : (U4 g j).ShapeCasts (U5h g j)
  cat : Shape.Concatenates [U5h g j, U5h g j, U5h g j, U5h g j] (U5q g j) 1
  back : (U5q g j).ShapeCasts S2048x128

/-- The facts hold at the one shape of a single step. -/
theorem singleFacts : SingleFacts 128 1 := by constructor <;> decide

/-- The facts hold at every shape of a double step. -/
theorem pairFacts (e : Nat) (he : e < 7) : PairFacts (64 / 2 ^ e) (2 ^ e) := by
  interval_cases e <;> constructor <;> decide

/-- The smaller of two arrays where the order is ascending (no mask: everywhere), the larger elsewhere. -/
def lower {s : Shape} : Option (IVec s 1) → FVec F s .f32 → FVec F s .f32 → FVec F s .f32
  | none, a, b => minimumf a b
  | some m, a, b => select m (minimumf a b) (maximumf a b)

/-- The larger of two arrays where the order is ascending (no mask: everywhere), the smaller elsewhere. -/
def upper {s : Shape} : Option (IVec s 1) → FVec F s .f32 → FVec F s .f32 → FVec F s .f32
  | none, a, b => maximumf a b
  | some m, a, b => select m (maximumf a b) (minimumf a b)

/-- A single step: the two halves of every group, compared and exchanged. -/
def single (g j : Nat) (f : SingleFacts g j) (m : Option (IVec (U4 g j) 1)) (v : FVec F S2048x128 .f32) :
    FVec F S2048x128 .f32 :=
  let a := shapeCast (U4 g j) (extractStridedSlice (U5h g j) ![0, 0, 0, 0, 0] (shapeCast (U5 g j) v f.cast) f.sl0) f.drop
  let b := shapeCast (U4 g j) (extractStridedSlice (U5h g j) ![0, 1, 0, 0, 0] (shapeCast (U5 g j) v f.cast) f.sl1) f.drop
  shapeCast S2048x128 (concatenate (U5 g j) 1
    [⟨U5h g j, shapeCast (U5h g j) (lower m a b) f.add⟩, ⟨U5h g j, shapeCast (U5h g j) (upper m a b) f.add⟩] f.cat) f.back

/-- A quarter of every group. -/
def quarter (g j : Nat) (f : PairFacts g j) (v : FVec F S2048x128 .f32) : Fin 4 → FVec F (U4 g j) .f32
  | 0 => shapeCast (U4 g j) (extractStridedSlice (U6q g j) ![0, 0, 0, 0, 0, 0] (shapeCast (U6 g j) v f.cast) f.sl00) f.drop
  | 1 => shapeCast (U4 g j) (extractStridedSlice (U6q g j) ![0, 0, 1, 0, 0, 0] (shapeCast (U6 g j) v f.cast) f.sl01) f.drop
  | 2 => shapeCast (U4 g j) (extractStridedSlice (U6q g j) ![0, 1, 0, 0, 0, 0] (shapeCast (U6 g j) v f.cast) f.sl10) f.drop
  | 3 => shapeCast (U4 g j) (extractStridedSlice (U6q g j) ![0, 1, 1, 0, 0, 0] (shapeCast (U6 g j) v f.cast) f.sl11) f.drop

/-- The four quarters of every group after the exchanges `0,2` and `1,3`, then `0,1` and `2,3`. -/
def exchanged {s : Shape} (m : Option (IVec s 1)) (q : Fin 4 → FVec F s .f32) : Fin 4 → FVec F s .f32
  | 0 => lower m (lower m (q 0) (q 2)) (lower m (q 1) (q 3))
  | 1 => upper m (lower m (q 0) (q 2)) (lower m (q 1) (q 3))
  | 2 => lower m (upper m (q 0) (q 2)) (upper m (q 1) (q 3))
  | 3 => upper m (upper m (q 0) (q 2)) (upper m (q 1) (q 3))

/-- Four quarters of every group, set side by side again. -/
def rejoin (g j : Nat) (f : PairFacts g j) (q : Fin 4 → FVec F (U4 g j) .f32) : FVec F S2048x128 .f32 :=
  shapeCast S2048x128 (concatenate (U5q g j) 1
    [⟨U5h g j, shapeCast (U5h g j) (q 0) f.add⟩, ⟨U5h g j, shapeCast (U5h g j) (q 1) f.add⟩,
     ⟨U5h g j, shapeCast (U5h g j) (q 2) f.add⟩, ⟨U5h g j, shapeCast (U5h g j) (q 3) f.add⟩] f.cat) f.back

/-- A double step: two single steps, the second at half the distance of the first. -/
def pair (g j : Nat) (f : PairFacts g j) (m : Option (IVec (U4 g j) 1)) (v : FVec F S2048x128 .f32) :
    FVec F S2048x128 .f32 :=
  rejoin g j f (exchanged m (quarter g j f v))

/-- What the mask by group number needs. -/
structure GroupFacts (g j : Nat) : Prop where
  io : Shape.Iotas (⟨4, ![g, 1, 1, 1]⟩ : Shape) .tc 32 [0]
  cast : Shape.ShapeCasts ⟨4, ![g, 1, 1, 1]⟩ ⟨4, ![g, 1, 1, 1]⟩
  br : Shape.Broadcasts ⟨4, ![g, 1, 1, 1]⟩ (U4 g j)

/-- The facts hold at the shape of a single step. -/
theorem groupFacts_single : GroupFacts 128 1 := by constructor <;> decide

/-- The facts hold at every shape of a double step. -/
theorem groupFacts (e : Nat) (he : e < 7) : GroupFacts (64 / 2 ^ e) (2 ^ e) := by
  interval_cases e <;> constructor <;> decide

/-- Ascending where bit `k` of the group's first row (`c` rows a group) is clear. -/
def byGroup (g j : Nat) (f : GroupFacts g j) (c k : BitVec 32) : IVec (U4 g j) 1 :=
  broadcastTo (U4 g j) (shapeCast ⟨4, ![g, 1, 1, 1]⟩
    (cmpi .eq (andi (muli (iota .tc ⟨4, ![g, 1, 1, 1]⟩ 32 [0] f.io) (broadcast _ c)) (broadcast _ k)) (broadcast _ 0#32))
    f.cast) f.br

/-- What the mask by row of eight needs. -/
structure RowFacts (g j : Nat) : Prop where
  io : Shape.Iotas (⟨4, ![1, 1, 8, 1]⟩ : Shape) .tc 32 [2]
  cast : Shape.ShapeCasts ⟨4, ![1, 1, 8, 1]⟩ ⟨4, ![1, 1, 8, 1]⟩
  br : Shape.Broadcasts ⟨4, ![1, 1, 8, 1]⟩ (U4 g j)

/-- The facts hold at every shape of a double step. -/
theorem rowFacts (e : Nat) (he : e < 7) : RowFacts (64 / 2 ^ e) (2 ^ e) := by
  interval_cases e <;> constructor <;> decide

/-- Ascending where bit `k` of the row's number among its eight is clear. -/
def byRow (g j : Nat) (f : RowFacts g j) (k : BitVec 32) : IVec (U4 g j) 1 :=
  broadcastTo (U4 g j) (shapeCast ⟨4, ![1, 1, 8, 1]⟩
    (cmpi .eq (andi (iota .tc ⟨4, ![1, 1, 8, 1]⟩ 32 [2] f.io) (broadcast _ k)) (broadcast _ 0#32)) f.cast) f.br

/-- What a step among eight rows needs. -/
structure SublaneFacts : Prop where
  io : S2048x1.Iotas .tc 32 [0]
  rot : S2048x128.Rotates 0 none
  cast : S2048x1.ShapeCasts S2048x1
  br : S2048x1.Broadcasts S2048x128

/-- The facts hold. -/
theorem sublaneFacts : SublaneFacts := by constructor <;> decide

/-- Row `r`'s number among its eight, at every row. -/
def rowOfEight (f : SublaneFacts) : IVec S2048x1 32 := andi (iota .tc S2048x1 32 [0] f.io) (broadcast _ 7#32)

/-- Where bit `d` of the row's number among its eight is clear. -/
def clearBit (f : SublaneFacts) (d : BitVec 32) : IVec S2048x1 1 :=
  cmpi .eq (andi (rowOfEight f) (broadcast _ d)) (broadcast _ 0#32)

/-- A mask over rows, along every column. -/
def alongRows (f : SublaneFacts) (m : IVec S2048x1 1) : IVec S2048x128 1 :=
  broadcastTo S2048x128 (shapeCast S2048x1 m f.cast) f.br

/-- The row each row is compared with: `d` rows on where bit `d` is clear, `d` rows back elsewhere (`u = 2048 - d`). -/
def partnerRows (f : SublaneFacts) (d u : BitVec 32) (v : FVec F S2048x128 .f32) : FVec F S2048x128 .f32 :=
  select (alongRows f (clearBit f d)) (dynamicRotate 0 u none v f.rot) (dynamicRotate 0 d none v f.rot)

/-- A step among eight rows, ascending where bit `k` is clear. -/
def sublane (f : SublaneFacts) (d u k : BitVec 32) (v : FVec F S2048x128 .f32) : FVec F S2048x128 .f32 :=
  select (alongRows f (xori (xori (clearBit f d) (clearBit f k)) (constantI S2048x1 1 1#1)))
    (minimumf v (partnerRows f d u v)) (maximumf v (partnerRows f d u v))

/-- A step among eight rows, ascending everywhere. -/
def sublaneUp (f : SublaneFacts) (d u : BitVec 32) (v : FVec F S2048x128 .f32) : FVec F S2048x128 .f32 :=
  select (alongRows f (clearBit f d)) (minimumf v (partnerRows f d u v)) (maximumf v (partnerRows f d u v))

end Cert.KernelIdeal.Body
-- ==== Proof.Chain.lean ====
module

public import proofs.«01_k».proof.Proof.Units

@[expose] public section

set_option maxRecDepth 16384

noncomputable section

/-! # The kernel's sort is its steps in order

Each array of 2048 rows the kernel's body holds between two steps is the step applied to the array before. -/

namespace Cert.KernelIdeal.Body

open Cert.KernelIdeal Cert.KernelIdeal.Gen Idealize.ShloMosaic Idealize.ShloMosaic.TcCoe Idealize.SL.Sem
open Cert.KernelIdeal.Gen.kernelRun0_A

variable {F : FTy → Type} [FloatOps F] [Named F]
/-- The double step at distances `2 ^ (e + 1)` and `2 ^ e` groups of eight rows, ascending where bit `k` of a row group's number is clear. -/
def pairG (e : Nat) (he : e < 7) (k : Nat) (v : FVec F S2048x128 .f32) : FVec F S2048x128 .f32 :=
  pair (64 / 2 ^ e) (2 ^ e) (pairFacts e he)
    (some (byGroup (64 / 2 ^ e) (2 ^ e) (groupFacts e he) (BitVec.ofNat 32 (4 * 2 ^ e)) (BitVec.ofNat 32 k))) v

/-- The same double step, ascending where bit `k` of a row's number among its eight is clear. -/
def pairR (e : Nat) (he : e < 7) (k : Nat) (v : FVec F S2048x128 .f32) : FVec F S2048x128 .f32 :=
  pair (64 / 2 ^ e) (2 ^ e) (pairFacts e he) (some (byRow (64 / 2 ^ e) (2 ^ e) (rowFacts e he) (BitVec.ofNat 32 k))) v

/-- The same double step, ascending everywhere. -/
def pairUp (e : Nat) (he : e < 7) (v : FVec F S2048x128 .f32) : FVec F S2048x128 .f32 :=
  pair (64 / 2 ^ e) (2 ^ e) (pairFacts e he) none v

/-- The single step between neighbouring groups of eight rows, ascending where bit `k` of the row group's number is clear. -/
def singleG (k : Nat) (v : FVec F S2048x128 .f32) : FVec F S2048x128 .f32 :=
  single 128 1 singleFacts (some (byGroup 128 1 groupFacts_single 2#32 (BitVec.ofNat 32 k))) v

/-- The step at a distance of `d` rows among eight, ascending where bit `k` of a row's number among its eight is clear. -/
def eightR (d k : Nat) (v : FVec F S2048x128 .f32) : FVec F S2048x128 .f32 :=
  sublane sublaneFacts (BitVec.ofNat 32 d) (BitVec.ofNat 32 (2048 - d)) (BitVec.ofNat 32 k) v

/-- The step at a distance of `d` rows among eight, ascending everywhere. -/
def eightUp (d : Nat) (v : FVec F S2048x128 .f32) : FVec F S2048x128 .f32 :=
  sublaneUp sublaneFacts (BitVec.ofNat 32 d) (BitVec.ofNat 32 (2048 - d)) v

/-- Level 1 of the sort. -/
def level1 (v : FVec F S2048x128 .f32) : FVec F S2048x128 .f32 :=
  singleG 2 v

/-- Level 2 of the sort. -/
def level2 (v : FVec F S2048x128 .f32) : FVec F S2048x128 .f32 :=
  pairG 0 (by decide) 4 v

/-- Level 3 of the sort. -/
def level3 (v : FVec F S2048x128 .f32) : FVec F S2048x128 .f32 :=
  singleG 8 (pairG 1 (by decide) 8 v)

/-- Level 4 of the sort. -/
def level4 (v : FVec F S2048x128 .f32) : FVec F S2048x128 .f32 :=
  pairG 0 (by decide) 16 (pairG 2 (by decide) 16 v)

/-- Level 5 of the sort. -/
def level5 (v : FVec F S2048x128 .f32) : FVec F S2048x128 .f32 :=
  singleG 32 (pairG 1 (by decide) 32 (pairG 3 (by decide) 32 v))

/-- Level 6 of the sort. -/
def level6 (v : FVec F S2048x128 .f32) : FVec F S2048x128 .f32 :=
  pairG 0 (by decide) 64 (pairG 2 (by decide) 64 (pairG 4 (by decide) 64 v))

/-- Level 7 of the sort. -/
def level7 (v : FVec F S2048x128 .f32) : FVec F S2048x128 .f32 :=
  singleG 128 (pairG 1 (by decide) 128 (pairG 3 (by decide) 128 (pairG 5 (by decide) 128 v)))

/-- Level 8 of the sort. -/
def level8 (v : FVec F S2048x128 .f32) : FVec F S2048x128 .f32 :=
  pairR 0 (by decide) 1 (pairR 2 (by decide) 1 (pairR 4 (by decide) 1 (pairR 6 (by decide) 1 v)))

/-- Level 9 of the sort. -/
def level9 (v : FVec F S2048x128 .f32) : FVec F S2048x128 .f32 :=
  pairR 0 (by decide) 2 (pairR 2 (by decide) 2 (pairR 4 (by decide) 2 (pairR 6 (by decide) 2 (eightR 1 2 v))))

/-- Level 10 of the sort. -/
def level10 (v : FVec F S2048x128 .f32) : FVec F S2048x128 .f32 :=
  pairR 0 (by decide) 4 (pairR 2 (by decide) 4 (pairR 4 (by decide) 4 (pairR 6 (by decide) 4 (eightR 1 4 (eightR 2 4 v)))))

/-- Level 11 of the sort. -/
def level11 (v : FVec F S2048x128 .f32) : FVec F S2048x128 .f32 :=
  pairUp 0 (by decide) (pairUp 2 (by decide) (pairUp 4 (by decide) (pairUp 6 (by decide) (eightUp 1 (eightUp 2 (eightUp 4 v))))))

variable (c : Dev nD) (a1 : Memref sig .tc .vmem S1x2048x128 .f32) (h1 : a1.IsWhole) (x0 : Vec F S1x2048x128 .f32)

/-- Level 1: the array after one more step. -/
theorem v28_eq : sl.v28 c a1 h1 x0 = singleG 2 (sl.v1 c a1 h1 x0) := by
  sl_kernel_rfl

/-- Level 2: the array after one more step. -/
theorem v82_eq : sl.v82 c a1 h1 x0 = pairG 0 (by decide) 4 (sl.v28 c a1 h1 x0) := by
  sl_kernel_rfl

/-- Level 3: the array after one more step. -/
theorem v136_eq : sl.v136 c a1 h1 x0 = pairG 1 (by decide) 8 (sl.v82 c a1 h1 x0) := by
  sl_kernel_rfl

/-- Level 3: the array after one more step. -/
theorem v160_eq : sl.v160 c a1 h1 x0 = singleG 8 (sl.v136 c a1 h1 x0) := by
  sl_kernel_rfl

/-- Level 4: the array after one more step. -/
theorem v214_eq : sl.v214 c a1 h1 x0 = pairG 2 (by decide) 16 (sl.v160 c a1 h1 x0) := by
  sl_kernel_rfl

/-- Level 4: the array after one more step. -/
theorem v268_eq : sl.v268 c a1 h1 x0 = pairG 0 (by decide) 16 (sl.v214 c a1 h1 x0) := by
  sl_kernel_rfl

/-- Level 5: the array after one more step. -/
theorem v322_eq : sl.v322 c a1 h1 x0 = pairG 3 (by decide) 32 (sl.v268 c a1 h1 x0) := by
  sl_kernel_rfl

/-- Level 5: the array after one more step. -/
theorem v376_eq : sl.v376 c a1 h1 x0 = pairG 1 (by decide) 32 (sl.v322 c a1 h1 x0) := by
  sl_kernel_rfl

/-- Level 5: the array after one more step. -/
theorem v400_eq : sl.v400 c a1 h1 x0 = singleG 32 (sl.v376 c a1 h1 x0) := by
  sl_kernel_rfl

/-- Level 6: the array after one more step. -/
theorem v454_eq : sl.v454 c a1 h1 x0 = pairG 4 (by decide) 64 (sl.v400 c a1 h1 x0) := by
  sl_kernel_rfl

/-- Level 6: the array after one more step. -/
theorem v508_eq : sl.v508 c a1 h1 x0 = pairG 2 (by decide) 64 (sl.v454 c a1 h1 x0) := by
  sl_kernel_rfl

/-- Level 6: the array after one more step. -/
theorem v562_eq : sl.v562 c a1 h1 x0 = pairG 0 (by decide) 64 (sl.v508 c a1 h1 x0) := by
  sl_kernel_rfl

/-- Level 7: the array after one more step. -/
theorem v616_eq : sl.v616 c a1 h1 x0 = pairG 5 (by decide) 128 (sl.v562 c a1 h1 x0) := by
  sl_kernel_rfl

/-- Level 7: the array after one more step. -/
theorem v670_eq : sl.v670 c a1 h1 x0 = pairG 3 (by decide) 128 (sl.v616 c a1 h1 x0) := by
  sl_kernel_rfl

/-- Level 7: the array after one more step. -/
theorem v724_eq : sl.v724 c a1 h1 x0 = pairG 1 (by decide) 128 (sl.v670 c a1 h1 x0) := by
  sl_kernel_rfl

/-- Level 7: the array after one more step. -/
theorem v748_eq : sl.v748 c a1 h1 x0 = singleG 128 (sl.v724 c a1 h1 x0) := by
  sl_kernel_rfl

/-- Level 8: the array after one more step. -/
theorem v800_eq : sl.v800 c a1 h1 x0 = pairR 6 (by decide) 1 (sl.v748 c a1 h1 x0) := by
  sl_kernel_rfl

/-- Level 8: the array after one more step. -/
theorem v852_eq : sl.v852 c a1 h1 x0 = pairR 4 (by decide) 1 (sl.v800 c a1 h1 x0) := by
  sl_kernel_rfl

/-- Level 8: the array after one more step. -/
theorem v904_eq : sl.v904 c a1 h1 x0 = pairR 2 (by decide) 1 (sl.v852 c a1 h1 x0) := by
  sl_kernel_rfl

/-- Level 8: the array after one more step. -/
theorem v956_eq : sl.v956 c a1 h1 x0 = pairR 0 (by decide) 1 (sl.v904 c a1 h1 x0) := by
  sl_kernel_rfl

/-- Level 9: the array after one more step. -/
theorem v976_eq : sl.v976 c a1 h1 x0 = eightR 1 2 (sl.v956 c a1 h1 x0) := by
  sl_kernel_rfl

/-- Level 9: the array after one more step. -/
theorem v1028_eq : sl.v1028 c a1 h1 x0 = pairR 6 (by decide) 2 (sl.v976 c a1 h1 x0) := by
  sl_kernel_rfl

/-- Level 9: the array after one more step. -/
theorem v1080_eq : sl.v1080 c a1 h1 x0 = pairR 4 (by decide) 2 (sl.v1028 c a1 h1 x0) := by
  sl_kernel_rfl

/-- Level 9: the array after one more step. -/
theorem v1132_eq : sl.v1132 c a1 h1 x0 = pairR 2 (by decide) 2 (sl.v1080 c a1 h1 x0) := by
  sl_kernel_rfl

/-- Level 9: the array after one more step. -/
theorem v1184_eq : sl.v1184 c a1 h1 x0 = pairR 0 (by decide) 2 (sl.v1132 c a1 h1 x0) := by
  sl_kernel_rfl

/-- Level 10: the array after one more step. -/
theorem v1204_eq : sl.v1204 c a1 h1 x0 = eightR 2 4 (sl.v1184 c a1 h1 x0) := by
  sl_kernel_rfl

/-- Level 10: the array after one more step. -/
theorem v1224_eq : sl.v1224 c a1 h1 x0 = eightR 1 4 (sl.v1204 c a1 h1 x0) := by
  sl_kernel_rfl

/-- Level 10: the array after one more step. -/
theorem v1276_eq : sl.v1276 c a1 h1 x0 = pairR 6 (by decide) 4 (sl.v1224 c a1 h1 x0) := by
  sl_kernel_rfl

/-- Level 10: the array after one more step. -/
theorem v1328_eq : sl.v1328 c a1 h1 x0 = pairR 4 (by decide) 4 (sl.v1276 c a1 h1 x0) := by
  sl_kernel_rfl

/-- Level 10: the array after one more step. -/
theorem v1380_eq : sl.v1380 c a1 h1 x0 = pairR 2 (by decide) 4 (sl.v1328 c a1 h1 x0) := by
  sl_kernel_rfl

/-- Level 10: the array after one more step. -/
theorem v1432_eq : sl.v1432 c a1 h1 x0 = pairR 0 (by decide) 4 (sl.v1380 c a1 h1 x0) := by
  sl_kernel_rfl

/-- Level 11: the array after one more step. -/
theorem v1446_eq : sl.v1446 c a1 h1 x0 = eightUp 4 (sl.v1432 c a1 h1 x0) := by
  sl_kernel_rfl

/-- Level 11: the array after one more step. -/
theorem v1460_eq : sl.v1460 c a1 h1 x0 = eightUp 2 (sl.v1446 c a1 h1 x0) := by
  sl_kernel_rfl

/-- Level 11: the array after one more step. -/
theorem v1474_eq : sl.v1474 c a1 h1 x0 = eightUp 1 (sl.v1460 c a1 h1 x0) := by
  sl_kernel_rfl

/-- Level 11: the array after one more step. -/
theorem v1497_eq : sl.v1497 c a1 h1 x0 = pairUp 6 (by decide) (sl.v1474 c a1 h1 x0) := by
  sl_kernel_rfl

/-- Level 11: the array after one more step. -/
theorem v1520_eq : sl.v1520 c a1 h1 x0 = pairUp 4 (by decide) (sl.v1497 c a1 h1 x0) := by
  sl_kernel_rfl

/-- Level 11: the array after one more step. -/
theorem v1543_eq : sl.v1543 c a1 h1 x0 = pairUp 2 (by decide) (sl.v1520 c a1 h1 x0) := by
  sl_kernel_rfl

/-- Level 11: the array after one more step. -/
theorem v1566_eq : sl.v1566 c a1 h1 x0 = pairUp 0 (by decide) (sl.v1543 c a1 h1 x0) := by
  sl_kernel_rfl

/-- All eleven levels, in order. -/
def sorted (v : FVec F S2048x128 .f32) : FVec F S2048x128 .f32 :=
  level11 (level10 (level9 (level8 (level7 (level6 (level5 (level4 (level3 (level2 (level1 v))))))))))

/-- The array the quantiles are read from is the sort of the block. -/
theorem sorted_eq : sl.v1566 c a1 h1 x0 = sorted (sl.v1 c a1 h1 x0) := by
  rw [v1566_eq, v1543_eq, v1520_eq, v1497_eq, v1474_eq, v1460_eq, v1446_eq, v1432_eq, v1380_eq, v1328_eq, v1276_eq, v1224_eq, v1204_eq, v1184_eq, v1132_eq, v1080_eq, v1028_eq, v976_eq, v956_eq, v904_eq, v852_eq, v800_eq, v748_eq, v724_eq, v670_eq, v616_eq, v562_eq, v508_eq, v454_eq, v400_eq, v376_eq, v322_eq, v268_eq, v214_eq, v160_eq, v136_eq, v82_eq, v28_eq]
  rfl

end Cert.KernelIdeal.Body
-- ==== Proof.Tail.lean ====
module

public import proofs.«01_k».proof.Proof.Chain

@[expose] public section

set_option maxRecDepth 16384

noncomputable section

/-! # The kernel's lookup in its table of quantiles

`table` is the kernel's table of 64 quantiles of each column. Eight coarse thresholds choose a group of eight quantiles and
eight fine comparisons find the place inside the group; the loops over thresholds are written here as recursions on the
number of comparisons made. -/

namespace Cert.KernelIdeal.Body

open Cert.KernelIdeal Cert.KernelIdeal.Gen Idealize.ShloMosaic Idealize.ShloMosaic.TcCoe Idealize.SL.Sem
open Cert.KernelIdeal.Gen.kernelRun0_A

variable {F : FTy → Type} [FloatOps F] [Named F]

/-- What the table's reshapes and slices need. -/
structure TableFacts : Prop where
  cast : S2048x128.ShapeCasts S8x32x8x128
  sl15 : S8x32x8x128.Slices ![0, 15, 0, 0] S8x1x8x128
  sl16 : S8x32x8x128.Slices ![0, 16, 0, 0] S8x1x8x128
  drop : S8x1x8x128.ShapeCasts S8x8x128
  flat : S8x8x128.ShapeCasts S64x128

/-- The facts hold. -/
theorem tableFacts : TableFacts := by constructor <;> decide

/-- The table of quantiles: the mean of the two sorted rows around each level. -/
def table (s : FVec F S2048x128 .f32) : FVec F S64x128 .f32 :=
  shapeCast S64x128 (mulf (broadcast S8x8x128 (Scalar.ofBits .f32 0x3F000000#32))
    (addf (shapeCast S8x8x128 (extractStridedSlice S8x1x8x128 ![0, 15, 0, 0] (shapeCast S8x32x8x128 s tableFacts.cast) tableFacts.sl15) tableFacts.drop)
      (shapeCast S8x8x128 (extractStridedSlice S8x1x8x128 ![0, 16, 0, 0] (shapeCast S8x32x8x128 s tableFacts.cast) tableFacts.sl16) tableFacts.drop)))
    tableFacts.flat

/-- Every row of the table can be cut out. -/
theorem rowSlices (i : Nat) : S64x128.Slices ![i % 64, 0] S1x128 :=
  ⟨rfl, fun a => match a with
    | ⟨0, _⟩ => by show i % 64 + 1 ≤ 64; have := Nat.mod_lt i (show 0 < 64 by decide); omega
    | ⟨1, _⟩ => by show 0 + 128 ≤ 128; omega⟩

/-- A row repeats to a block. -/
theorem rowRepeats : S1x128.Broadcasts S2048x128 := by decide
/-- A row is a row. -/
theorem rowIsRow : S1x128.ShapeCasts S1x128 := by decide

/-- Row `i` of the table, repeated along the rows of a block. -/
def rowB (q : FVec F S64x128 .f32) (i : Nat) : FVec F S2048x128 .f32 :=
  broadcastTo S2048x128 (extractStridedSlice S1x128 ![i % 64, 0] q (rowSlices i)) rowRepeats

/-- Row `i` of the table, reshaped to itself and repeated along the rows of a block. -/
def rowC (q : FVec F S64x128 .f32) (i : Nat) : FVec F S2048x128 .f32 :=
  broadcastTo S2048x128 (shapeCast S1x128 (extractStridedSlice S1x128 ![i % 64, 0] q (rowSlices i)) rowIsRow) rowRepeats

/-- The value the kernel pads with, at every place of a block. -/
def bigs : FVec F S2048x128 .f32 := broadcast S2048x128 (Named.named κ "big" 0x7F61B1E6#32)
/-- Its negative. -/
def negBigs : FVec F S2048x128 .f32 :=
  broadcast S2048x128 (Scalar.subf (Scalar.ofBits .f32 0x00000000#32) (Named.named κ "big" 0x7F61B1E6#32))

/-- Whether the `n`-th coarse threshold is at most the entry. -/
def coarseHit (q : FVec F S64x128 .f32) (x : FVec F S2048x128 .f32) (n : Nat) : IVec S2048x128 1 :=
  cmpf .ole (rowB q (56 + n)) x

/-- How many of the first `n` coarse thresholds are at most the entry. -/
def coarseCount (q : FVec F S64x128 .f32) (x : FVec F S2048x128 .f32) : Nat → IVec S2048x128 32
  | 0 => broadcast S2048x128 0#32
  | n + 1 => addi (coarseCount q x n) (extui 32 (coarseHit q x n) natLt_1_32)

/-- The last of the first `n` coarse thresholds that is at most the entry. -/
def coarseMax (q : FVec F S64x128 .f32) (x : FVec F S2048x128 .f32) : Nat → FVec F S2048x128 .f32
  | 0 => negBigs
  | n + 1 => select (coarseHit q x n) (rowC q (56 + n)) (coarseMax q x n)

/-- Whether a bit of a count is set. -/
def bitOf (b : IVec S2048x128 32) (k : BitVec 32) : IVec S2048x128 1 :=
  cmpi .sgt (andi b (broadcast S2048x128 k)) (broadcast S2048x128 0#32)

/-- The `n`-th quantile of the group the count names. -/
def pick (q : FVec F S64x128 .f32) (b : IVec S2048x128 32) (n : Nat) : FVec F S2048x128 .f32 :=
  select (bitOf b 4#32)
    (select (bitOf b 2#32) (select (bitOf b 1#32) (rowC q (n * 8 + 7)) (rowC q (n * 8 + 6)))
      (select (bitOf b 1#32) (rowC q (n * 8 + 5)) (rowC q (n * 8 + 4))))
    (select (bitOf b 2#32) (select (bitOf b 1#32) (rowC q (n * 8 + 3)) (rowC q (n * 8 + 2)))
      (select (bitOf b 1#32) (rowC q (n * 8 + 1)) (rowC q (n * 8))))

/-- Whether the `n`-th quantile of the group is at most the entry. -/
def fineHit (q : FVec F S64x128 .f32) (x : FVec F S2048x128 .f32) (b : IVec S2048x128 32) (n : Nat) : IVec S2048x128 1 :=
  cmpf .ole (pick q b n) x

/-- How many of the first `n` quantiles of the group are at most the entry. -/
def fineCount (q : FVec F S64x128 .f32) (x : FVec F S2048x128 .f32) (b : IVec S2048x128 32) : Nat → FVec F S2048x128 .f32
  | 0 => broadcast S2048x128 (Scalar.ofBits .f32 0x00000000#32)
  | n + 1 => addf (fineCount q x b n) (sitofp .f32 (extui 32 (fineHit q x b n) natLt_1_32))

/-- The last of the first `n` quantiles of the group that is at most the entry. -/
def fineLast (q : FVec F S64x128 .f32) (x : FVec F S2048x128 .f32) (b : IVec S2048x128 32) : Nat → FVec F S2048x128 .f32
  | 0 => negBigs
  | n + 1 => select (fineHit q x b n) (pick q b n) (fineLast q x b n)

/-- The least of the first `n` quantiles of the group that exceeds the entry. -/
def fineNext (q : FVec F S64x128 .f32) (x : FVec F S2048x128 .f32) (b : IVec S2048x128 32) : Nat → FVec F S2048x128 .f32
  | 0 => bigs
  | n + 1 => minimumf (fineNext q x b n) (select (fineHit q x b n) bigs (pick q b n))

variable (c : Dev nD) (a1 : Memref sig .tc .vmem S1x2048x128 .f32) (h1 : a1.IsWhole) (x0 : Vec F S1x2048x128 .f32)

/-- The kernel's table is `table` of its sorted block. -/
theorem table_eq : sl.r c a1 h1 x0 = table (sl.v1566 c a1 h1 x0) := by sl_kernel_rfl

/-- The kernel's count of coarse thresholds. -/
theorem coarseCount_eq : sl.r_5 c a1 h1 x0 = coarseCount (sl.r c a1 h1 x0) (sl.v1 c a1 h1 x0) 7 := by sl_kernel_rfl

/-- The kernel's last coarse threshold. -/
theorem coarseMax_eq : sl.r_6 c a1 h1 x0 = coarseMax (sl.r c a1 h1 x0) (sl.v1 c a1 h1 x0) 7 := by sl_kernel_rfl

/-- The kernel's count inside the group. -/
theorem fineCount_eq : sl.r_47 c a1 h1 x0 = fineCount (sl.r c a1 h1 x0) (sl.v1 c a1 h1 x0) (sl.r_5 c a1 h1 x0) 8 := by sl_kernel_rfl

/-- The kernel's last quantile at most the entry. -/
theorem fineLast_eq : sl.r_48 c a1 h1 x0 = fineLast (sl.r c a1 h1 x0) (sl.v1 c a1 h1 x0) (sl.r_5 c a1 h1 x0) 8 := by sl_kernel_rfl

/-- The kernel's first quantile above the entry. -/
theorem fineNext_eq : sl.r_49 c a1 h1 x0 = fineNext (sl.r c a1 h1 x0) (sl.v1 c a1 h1 x0) (sl.r_5 c a1 h1 x0) 8 := by sl_kernel_rfl

/-- The kernel's whole count. -/
theorem count_eq : sl.r_50 c a1 h1 x0
    = addf (mulf (sitofp .f32 (sl.r_5 c a1 h1 x0)) (broadcast S2048x128 (Scalar.ofBits .f32 0x41000000#32))) (sl.r_47 c a1 h1 x0) := by
  sl_kernel_rfl

end Cert.KernelIdeal.Body
-- ==== Proof.Network.lean ====
module

public import Idealize.ShloMosaic.Lib.SortNet.Basic
public import Idealize.ShloMosaic.Lib.SortNet.Bitonic
public import Idealize.ShloMosaic.Lib.SortNet.Sorts
public import Mathlib.Tactic.IntervalCases
public import Mathlib.Tactic.NormNum
public import Mathlib.Tactic.Ring

@[expose] public section

set_option maxRecDepth 16384

/-! # Stages of the bitonic network, read at positions

A position below 2048 is written `s * 256 + (a * 4 + c) * 2 ^ e + b`: `s` is the row's number among eight, `a` the group,
`c` the quarter of the group, `b` the place inside the quarter. -/

namespace Cert.Sorting

open Idealize.ShloMosaic.SortNet Idealize.ShloMosaic

/-- A position from its group, quarter, place and row among eight. -/
def pos (e a c b s : Nat) : Nat := s * 256 + (a * 4 + c) * 2 ^ e + b

/-- Positions are below 2048. -/
theorem pos_lt {e a c b s : Nat} (he : e < 7) (ha : a < 64 / 2 ^ e) (hc : c < 4) (hb : b < 2 ^ e) (hs : s < 8) :
    pos e a c b s < 2 ^ 11 := by
  unfold pos; interval_cases e <;> norm_num at * <;> omega

/-- A bit of a number is clear exactly when its quotient by that power of two is even. -/
theorem and_two_pow_zero (x s : Nat) : x &&& 2 ^ s = 0 ↔ x / 2 ^ s % 2 = 0 := by
  rw [and_two_pow_eq_zero_iff_testBit, Nat.testBit_eq_decide_div_mod_eq]
  simp

/-- Bit `e` of a position is the low bit of the quarter. -/
theorem pos_low {e a c b s : Nat} (he : e < 7) (hb : b < 2 ^ e) (hc : c < 4) :
    pos e a c b s &&& 2 ^ e = 0 ↔ c % 2 = 0 := by
  rw [and_two_pow_zero]; unfold pos; interval_cases e <;> norm_num at * <;> omega

/-- Bit `e + 1` of a position is the high bit of the quarter. -/
theorem pos_high {e a c b s : Nat} (he : e < 7) (hb : b < 2 ^ e) (hc : c < 4) :
    pos e a c b s &&& 2 ^ (e + 1) = 0 ↔ c / 2 = 0 := by
  rw [and_two_pow_zero]; unfold pos; interval_cases e <;> norm_num at * <;> omega

/-- A bit above the quarter is that bit of the group's first position, as long as it is below bit 8. -/
theorem pos_group {e a c b s lk : Nat} (he : e < 7) (hb : b < 2 ^ e) (hc : c < 4) (hl : e + 2 ≤ lk) (hk : lk ≤ 7) :
    pos e a c b s &&& 2 ^ lk = 0 ↔ (a * (4 * 2 ^ e)) &&& 2 ^ lk = 0 := by
  rw [and_two_pow_zero, and_two_pow_zero]; unfold pos
  interval_cases e <;> interval_cases lk <;> norm_num at * <;> omega

/-- Bit 8 and those above are the bits of the row's number among eight. -/
theorem pos_row {e a c b s t : Nat} (he : e < 7) (ha : a < 64 / 2 ^ e) (hb : b < 2 ^ e) (hc : c < 4) (ht : t ≤ 3) :
    pos e a c b s &&& 2 ^ (8 + t) = 0 ↔ s &&& 2 ^ t = 0 := by
  rw [and_two_pow_zero, and_two_pow_zero]; unfold pos
  interval_cases e <;> interval_cases t <;> norm_num at * <;> omega

/-- Every position below 2048 has its four parts. -/
theorem exists_pos (e : Nat) (he : e < 7) (i : Nat) (hi : i < 2 ^ 11) :
    ∃ a c b s, a < 64 / 2 ^ e ∧ c < 4 ∧ b < 2 ^ e ∧ s < 8 ∧ i = pos e a c b s := by
  refine ⟨i % 256 / 2 ^ e / 4, i % 256 / 2 ^ e % 4, i % 2 ^ e, i / 256, ?_⟩
  unfold pos; interval_cases e <;> norm_num at * <;> omega

variable {α : Type*} [LinearOrder α]

/-- The smaller of two entries, or the larger where `w`. -/
def lo (w : Bool) (x y : α) : α := if w then max x y else min x y
/-- The larger of two entries, or the smaller where `w`. -/
def hi (w : Bool) (x y : α) : α := if w then min x y else max x y

/-- One stage at a position with its bit clear. -/
theorem stage_lo {s : Nat} (hs : s < 11) (w : Fin (2 ^ 11) → Bool) (v : Fin (2 ^ 11) → α) (i j : Fin (2 ^ 11))
    (hi : i.val &&& 2 ^ s = 0) (hj : j.val = i.val + 2 ^ s) :
    Network.apply (stage 11 s w) v i = lo (w i) (v i) (v j) := by
  have hp : partner 11 s i = j := Fin.ext (by rw [partner_val_of_clear hs i hi, hj])
  rw [(apply_stage hs w v i hi).1, hp]; rfl

/-- One stage at a position with its bit set. -/
theorem stage_hi {s : Nat} (hs : s < 11) (w : Fin (2 ^ 11) → Bool) (v : Fin (2 ^ 11) → α) (i j : Fin (2 ^ 11))
    (hi' : i.val &&& 2 ^ s = 0) (hj : j.val = i.val + 2 ^ s) :
    Network.apply (stage 11 s w) v j = hi (w i) (v i) (v j) := by
  have hp : partner 11 s i = j := Fin.ext (by rw [partner_val_of_clear hs i hi', hj])
  have h := (apply_stage hs w v i hi').2
  rw [hp] at h; rw [h]; rfl

/-- Four entries after the exchanges `0,2` and `1,3`, then `0,1` and `2,3`. -/
def four (w : Bool) (q : Fin 4 → α) : Fin 4 → α
  | 0 => lo w (lo w (q 0) (q 2)) (lo w (q 1) (q 3))
  | 1 => hi w (lo w (q 0) (q 2)) (lo w (q 1) (q 3))
  | 2 => lo w (hi w (q 0) (q 2)) (hi w (q 1) (q 3))
  | 3 => hi w (hi w (q 0) (q 2)) (hi w (q 1) (q 3))

/-- Two stages, the second at half the distance of the first, act on the four quarters of each group as `four`, when the
    direction is the same in all four. -/
theorem two_stages {e : Nat} (he : e < 7) (w : Fin (2 ^ 11) → Bool) (v : Fin (2 ^ 11) → α) {a b s : Nat}
    (ha : a < 64 / 2 ^ e) (hb : b < 2 ^ e) (hs : s < 8) (w₀ : Bool)
    (hw : ∀ c (hc : c < 4), w ⟨pos e a c b s, pos_lt he ha hc hb hs⟩ = w₀) (c : Fin 4) :
    Network.apply (stage 11 e w) (Network.apply (stage 11 (e + 1) w) v) ⟨pos e a c b s, pos_lt he ha c.isLt hb hs⟩
      = four w₀ (fun c => v ⟨pos e a c b s, pos_lt he ha c.isLt hb hs⟩) c := by
  let P : Fin 4 → Fin (2 ^ 11) := fun c => ⟨pos e a c b s, pos_lt he ha c.isLt hb hs⟩
  have hP : ∀ c, w (P c) = w₀ := fun c => hw c c.isLt
  have l0 : (P 0).val &&& 2 ^ e = 0 := (pos_low he hb (by decide)).mpr rfl
  have l2 : (P 2).val &&& 2 ^ e = 0 := (pos_low he hb (by decide)).mpr rfl
  have h0 : (P 0).val &&& 2 ^ (e + 1) = 0 := (pos_high he hb (by decide)).mpr rfl
  have h1 : (P 1).val &&& 2 ^ (e + 1) = 0 := (pos_high he hb (by decide)).mpr rfl
  have e01 : (P 1).val = (P 0).val + 2 ^ e := by
    simp only [P, pos, show ((0 : Fin 4) : Nat) = 0 from rfl, show ((1 : Fin 4) : Nat) = 1 from rfl]; ring
  have e23 : (P 3).val = (P 2).val + 2 ^ e := by
    simp only [P, pos, show ((3 : Fin 4) : Nat) = 3 from rfl, show ((2 : Fin 4) : Nat) = 2 from rfl]; ring
  have e02 : (P 2).val = (P 0).val + 2 ^ (e + 1) := by
    simp only [P, pos, show ((0 : Fin 4) : Nat) = 0 from rfl, show ((2 : Fin 4) : Nat) = 2 from rfl]; ring
  have e13 : (P 3).val = (P 1).val + 2 ^ (e + 1) := by
    simp only [P, pos, show ((3 : Fin 4) : Nat) = 3 from rfl, show ((1 : Fin 4) : Nat) = 1 from rfl]; ring
  show Network.apply _ _ (P c) = four w₀ (fun c => v (P c)) c
  have y0 := stage_lo (s := e + 1) (by omega) w v (P 0) (P 2) h0 e02
  have y2 := stage_hi (s := e + 1) (by omega) w v (P 0) (P 2) h0 e02
  have y1 := stage_lo (s := e + 1) (by omega) w v (P 1) (P 3) h1 e13
  have y3 := stage_hi (s := e + 1) (by omega) w v (P 1) (P 3) h1 e13
  rw [hP] at y0 y1 y2 y3
  match c with
  | 0 => rw [stage_lo (by omega) w _ (P 0) (P 1) l0 e01, y0, y1, hP]; rfl
  | 1 => rw [stage_hi (by omega) w _ (P 0) (P 1) l0 e01, y0, y1, hP]; rfl
  | 2 => rw [stage_lo (by omega) w _ (P 2) (P 3) l2 e23, y2, y3, hP]; rfl
  | 3 => rw [stage_hi (by omega) w _ (P 2) (P 3) l2 e23, y2, y3, hP]; rfl

/-- The direction of a level of the bitonic sort: the larger entry first where bit `l` of the position is set. -/
def down (l : Nat) (i : Fin (2 ^ 11)) : Bool := decide (i.val &&& 2 ^ l = 0) == false

end Cert.Sorting
-- ==== Proof.Steps.lean ====
module

public import proofs.«01_k».proof.Proof.Chain
public import proofs.«01_k».proof.Proof.Network
public import Idealize.ShloMosaic.Lib.ValueIdxRank6
public import Idealize.ShloMosaic.PureOps.Ideal
public import Mathlib.Tactic.FinCases

@[expose] public section

set_option maxRecDepth 16384

noncomputable section

/-! # Each step of the kernel's sort is a stage of the bitonic network

Row `r` of a block holds position `(r % 8) * 256 + r / 8` of the order the kernel sorts in. Read in that order, a column
after a step of the kernel is the column before it after the network's stages. -/

namespace Cert.KernelIdeal.Body

open Cert.KernelIdeal Cert.Sorting Idealize.ShloMosaic Idealize.ShloMosaic.ValueIdx Idealize.ShloMosaic.SortNet

/-- The row that holds a position. -/
def row (i : Fin (2 ^ 11)) : Fin 2048 := ⟨i.val % 256 * 8 + i.val / 256, by have := i.isLt; norm_num at this; omega⟩

/-- A column of a block, in the order of positions. -/
def col (v : FVec Ideal S2048x128 .f32) (l : Fin 128) : Fin (2 ^ 11) → EReal := fun i => v (ix2 (row i) l)

/-- The row of a position given by its parts. -/
theorem row_pos {e a c b s : Nat} (he : e < 7) (ha : a < 64 / 2 ^ e) (hc : c < 4) (hb : b < 2 ^ e) (hs : s < 8) :
    (row ⟨pos e a c b s, pos_lt he ha hc hb hs⟩).val = ((a * 4 + c) * 2 ^ e + b) * 8 + s := by
  show pos e a c b s % 256 * 8 + pos e a c b s / 256 = _
  unfold pos; interval_cases e <;> norm_num at * <;> omega

section shapes
variable {n0 n1 n2 n3 n4 n5 : Nat}

/-- The row-major place of an index of two coordinates. -/
theorem place2 (a : Fin n0) (b : Fin n1) : ((⟨2, ![n0, n1]⟩ : Shape).rowMajor (ix2 a b)).val = a.val * n1 + b.val :=
  Shape.rowMajor_val_two _
/-- The row-major place of an index of four coordinates. -/
theorem place4 (a : Fin n0) (b : Fin n1) (c : Fin n2) (d : Fin n3) :
    ((⟨4, ![n0, n1, n2, n3]⟩ : Shape).rowMajor (ix4 a b c d)).val = ((a.val * n1 + b.val) * n2 + c.val) * n3 + d.val :=
  Shape.rowMajor_val_four _
/-- The row-major place of an index of five coordinates. -/
theorem place5 (a : Fin n0) (b : Fin n1) (c : Fin n2) (d : Fin n3) (e : Fin n4) :
    ((⟨5, ![n0, n1, n2, n3, n4]⟩ : Shape).rowMajor (ix5 a b c d e)).val
      = (((a.val * n1 + b.val) * n2 + c.val) * n3 + d.val) * n4 + e.val :=
  Shape.rowMajor_val_five _
/-- The row-major place of an index of six coordinates. -/
theorem place6 (a : Fin n0) (b : Fin n1) (c : Fin n2) (d : Fin n3) (e : Fin n4) (f : Fin n5) :
    ((⟨6, ![n0, n1, n2, n3, n4, n5]⟩ : Shape).rowMajor (ix6 a b c d e f)).val
      = ((((a.val * n1 + b.val) * n2 + c.val) * n3 + d.val) * n4 + e.val) * n5 + f.val :=
  Shape.rowMajor_val_six _

variable {g j : Nat}

/-- A quarter read at an index: the row it holds. -/
theorem quarter_apply (f : PairFacts g j) (v : FVec Ideal S2048x128 .f32) (c : Fin 4) (a : Fin g) (b : Fin j) (s : Fin 8)
    (l : Fin 128) (r : Fin 2048) (hr : r.val = ((a.val * 4 + c.val) * j + b.val) * 8 + s.val) :
    quarter g j f v c (ix4 a b s l) = v (ix2 r l) := by
  have key : ∀ (c1 c0 : Fin 2) (o : Fin 6 → Nat) (ho : o = ![0, c1.val, c0.val, 0, 0, 0]) (hsl : (U6 g j).Slices o (U6q g j)),
      c.val = c1.val * 2 + c0.val →
      shapeCast (U4 g j) (extractStridedSlice (U6q g j) o (shapeCast (U6 g j) v f.cast) hsl) f.drop (ix4 a b s l) = v (ix2 r l) := by
    intro c1 c0 o ho hsl hc
    subst ho
    rw [shapeCast_apply _ _ _ (ix6 a (0 : Fin 1) (0 : Fin 1) b s l)
      (by rw [place6, place4]; simp)]
    refine (congrArg (shapeCast (U6 g j) v f.cast) (?_ : _ = ix6 a c1 c0 b s l)).trans ?_
    · funext x; refine Fin.ext ?_
      match x with
      | ⟨0, _⟩ => exact Nat.zero_add _
      | ⟨1, _⟩ => exact Nat.add_zero _
      | ⟨2, _⟩ => exact Nat.add_zero _
      | ⟨3, _⟩ => exact Nat.zero_add _
      | ⟨4, _⟩ => exact Nat.zero_add _
      | ⟨5, _⟩ => exact Nat.zero_add _
    · refine shapeCast_apply _ _ _ _ ?_
      rw [place6, place2, hr, hc]
      ring
  match c with
  | 0 => exact key 0 0 _ rfl f.sl00 rfl
  | 1 => exact key 0 1 _ rfl f.sl01 rfl
  | 2 => exact key 1 0 _ rfl f.sl10 rfl
  | 3 => exact key 1 1 _ rfl f.sl11 rfl

/-- Rejoined quarters read at a row: the quarter the row lies in. -/
theorem rejoin_apply (f : PairFacts g j) (q : Fin 4 → FVec Ideal (U4 g j) .f32) (c : Fin 4) (a : Fin g) (b : Fin j)
    (s : Fin 8) (l : Fin 128) (r : Fin 2048) (hr : r.val = ((a.val * 4 + c.val) * j + b.val) * 8 + s.val) :
    rejoin g j f q (ix2 r l) = q c (ix4 a b s l) := by
  unfold rejoin
  rw [shapeCast_apply _ _ _ (ix5 a c b s l)
    (by rw [place5, place2, hr])]
  have key : ∀ (k : Nat) (hk : k < 4) (hc : c.val = k)
      (hx : ([⟨U5h g j, shapeCast (U5h g j) (q 0) f.add⟩, ⟨U5h g j, shapeCast (U5h g j) (q 1) f.add⟩,
        ⟨U5h g j, shapeCast (U5h g j) (q 2) f.add⟩, ⟨U5h g j, shapeCast (U5h g j) (q 3) f.add⟩] :
        List ((s : Shape) × (s.Idx → EReal)))[k]'hk = ⟨U5h g j, shapeCast (U5h g j) (q c) f.add⟩),
      concatenate (U5q g j) 1 [⟨U5h g j, shapeCast (U5h g j) (q 0) f.add⟩, ⟨U5h g j, shapeCast (U5h g j) (q 1) f.add⟩,
        ⟨U5h g j, shapeCast (U5h g j) (q 2) f.add⟩, ⟨U5h g j, shapeCast (U5h g j) (q 3) f.add⟩] f.cat (ix5 a c b s l)
        = q c (ix4 a b s l) := by
    intro k hk hc hx
    refine (concatenate_apply_piece (t := U5q g j) 1 [⟨U5h g j, shapeCast (U5h g j) (q 0) f.add⟩,
        ⟨U5h g j, shapeCast (U5h g j) (q 1) f.add⟩, ⟨U5h g j, shapeCast (U5h g j) (q 2) f.add⟩,
        ⟨U5h g j, shapeCast (U5h g j) (q 3) f.add⟩] f.cat (ix5 a c b s l) k hk _ _ hx rfl k ?_
      (ix5 a (0 : Fin 1) b s l) ?_ ?_).trans ?_
    · interval_cases k <;> rfl
    · intro x hx; fin_cases x <;> first | rfl | exact absurd rfl hx
    · show k + 0 = c.val; omega
    · refine shapeCast_apply _ _ _ _ ?_
      rw [place5, place4]; simp
  match c with
  | 0 => exact key 0 (by decide) rfl rfl
  | 1 => exact key 1 (by decide) rfl rfl
  | 2 => exact key 2 (by decide) rfl rfl
  | 3 => exact key 3 (by decide) rfl rfl

end shapes

/-- A double step, on any mask that gives the network's direction, is two stages of the network. -/
theorem pair_col {e : Nat} (he : e < 7) (m : Option (IVec (U4 (64 / 2 ^ e) (2 ^ e)) 1)) (w : Fin (2 ^ 11) → Bool)
    (hw : ∀ (a : Fin (64 / 2 ^ e)) (b : Fin (2 ^ e)) (s : Fin 8) (l : Fin 128), ∃ w₀,
      (∀ c (hc : c < 4), w ⟨pos e a c b s, pos_lt he a.isLt hc b.isLt s.isLt⟩ = w₀) ∧
      (∀ x y : FVec Ideal (U4 (64 / 2 ^ e) (2 ^ e)) .f32, lower m x y (ix4 a b s l) = lo w₀ (x (ix4 a b s l)) (y (ix4 a b s l))) ∧
      (∀ x y : FVec Ideal (U4 (64 / 2 ^ e) (2 ^ e)) .f32, upper m x y (ix4 a b s l) = hi w₀ (x (ix4 a b s l)) (y (ix4 a b s l))))
    (v : FVec Ideal S2048x128 .f32) (l : Fin 128) :
    col (pair (64 / 2 ^ e) (2 ^ e) (pairFacts e he) m v) l
      = Network.apply (stage 11 e w) (Network.apply (stage 11 (e + 1) w) (col v l)) := by
  funext i
  obtain ⟨a, c, b, s, ha, hc, hb, hs, hi⟩ := exists_pos e he i.val i.isLt
  obtain rfl : i = ⟨pos e a c b s, pos_lt he ha hc hb hs⟩ := Fin.ext hi
  obtain ⟨w₀, h1, h2, h3⟩ := hw ⟨a, ha⟩ ⟨b, hb⟩ ⟨s, hs⟩ l
  refine Eq.trans ?_ (two_stages he w (col v l) ha hb hs w₀ h1 ⟨c, hc⟩).symm
  show rejoin _ _ (pairFacts e he) _ (ix2 (row _) l) = _
  rw [rejoin_apply (pairFacts e he) _ ⟨c, hc⟩ ⟨a, ha⟩ ⟨b, hb⟩ ⟨s, hs⟩ l _ (row_pos he ha hc hb hs)]
  have hq : ∀ c : Fin 4, quarter _ _ (pairFacts e he) v c (ix4 (⟨a, ha⟩ : Fin _) (⟨b, hb⟩ : Fin _) (⟨s, hs⟩ : Fin 8) l)
      = col v l ⟨pos e a c b s, pos_lt he ha c.isLt hb hs⟩ := fun c =>
    quarter_apply (pairFacts e he) v c ⟨a, ha⟩ ⟨b, hb⟩ ⟨s, hs⟩ l _ (row_pos he ha c.isLt hb hs)
  generalize (⟨c, hc⟩ : Fin 4) = c'
  match c' with
  | 0 => simp only [exchanged, four, h2, h3, hq]
  | 1 => simp only [exchanged, four, h2, h3, hq]
  | 2 => simp only [exchanged, four, h2, h3, hq]
  | 3 => simp only [exchanged, four, h2, h3, hq]

/-- The direction under a mask. -/
theorem lower_some {s : Shape} (m : IVec s 1) (x y : FVec Ideal s .f32) (i : s.Idx) (w : Bool) (h : m i = 1 ↔ w = false) :
    lower (some m) x y i = lo w (x i) (y i) ∧ upper (some m) x y i = hi w (x i) (y i) := by
  have e1 : lower (some m) x y i = if m i = 1 then min (x i) (y i) else max (x i) (y i) := rfl
  have e2 : upper (some m) x y i = if m i = 1 then max (x i) (y i) else min (x i) (y i) := rfl
  rw [e1, e2]
  cases w
  · rw [if_pos (h.mpr rfl), if_pos (h.mpr rfl)]; exact ⟨rfl, rfl⟩
  · have h0 : ¬ m i = 1 := fun hm => Bool.noConfusion (h.mp hm)
    rw [if_neg h0, if_neg h0]; exact ⟨rfl, rfl⟩

/-- A test of one bit, as the kernel's masks make it. -/
theorem bit_test (x k : Nat) (hx : x < 2 ^ 31) (hk : k < 2 ^ 31) :
    (Scalar.cmpi .eq (BitVec.ofNat 32 x &&& BitVec.ofNat 32 k) 0#32 = 1) ↔ x &&& k = 0 := by
  rw [show (1 : BitVec 1) = 1#1 from rfl, show Scalar.cmpi .eq (BitVec.ofNat 32 x &&& BitVec.ofNat 32 k) 0#32 = IntOp.cmpi .eq (BitVec.ofNat 32 x &&& BitVec.ofNat 32 k) 0#32 from rfl, IntOp.cmpi_eq, ← BitVec.toNat_inj]
  simp only [BitVec.toNat_and, BitVec.toNat_ofNat]
  rw [Nat.mod_eq_of_lt (by omega), Nat.mod_eq_of_lt (by omega)]

/-- The mask by group number, read at an index. -/
theorem byGroup_apply {g j : Nat} (f : GroupFacts g j) (c k : Nat) (hk : k < 2 ^ 31) (a : Fin g) (b : Fin j) (s : Fin 8)
    (l : Fin 128) (hc : a.val * c < 2 ^ 31) (hg : a.val < 2 ^ 31) (hc' : c < 2 ^ 31) :
    byGroup g j f (BitVec.ofNat 32 c) (BitVec.ofNat 32 k) (ix4 a b s l) = 1 ↔ (a.val * c) &&& k = 0 := by
  unfold byGroup
  rw [broadcastTo_apply _ _ _ (ix4 a (0 : Fin 1) (0 : Fin 1) (0 : Fin 1)) (by
    intro x
    match x with
    | ⟨0, _⟩ =>
      show a.val = if g = 1 then 0 else a.val
      split
      · have := a.isLt; omega
      · rfl
    | ⟨1, _⟩ => rfl
    | ⟨2, _⟩ => rfl
    | ⟨3, _⟩ => rfl)]
  rw [shapeCast_apply _ _ _ (ix4 a (0 : Fin 1) (0 : Fin 1) (0 : Fin 1)) rfl]
  rw [← bit_test _ _ hc hk]
  show Scalar.cmpi .eq ((BitVec.ofNat 32 (0 * g + a.val) * BitVec.ofNat 32 c) &&& BitVec.ofNat 32 k) 0#32 = 1 ↔ _
  rw [Nat.zero_mul, Nat.zero_add, BitVec.ofNat_mul]

/-- The mask by row of eight, read at an index. -/
theorem byRow_apply {g j : Nat} (f : RowFacts g j) (k : Nat) (hk : k < 2 ^ 31) (a : Fin g) (b : Fin j) (s : Fin 8)
    (l : Fin 128) : byRow g j f (BitVec.ofNat 32 k) (ix4 a b s l) = 1 ↔ s.val &&& k = 0 := by
  unfold byRow
  rw [broadcastTo_apply _ _ _ (ix4 (0 : Fin 1) (0 : Fin 1) s (0 : Fin 1)) (by
    intro x
    match x with
    | ⟨0, _⟩ => rfl
    | ⟨1, _⟩ => rfl
    | ⟨2, _⟩ => rfl
    | ⟨3, _⟩ => rfl)]
  rw [shapeCast_apply _ _ _ (ix4 (0 : Fin 1) (0 : Fin 1) s (0 : Fin 1)) rfl]
  rw [← bit_test _ _ (by omega) hk]
  show Scalar.cmpi .eq (BitVec.ofNat 32 (0 * 8 + s.val) &&& BitVec.ofNat 32 k) 0#32 = 1 ↔ _
  rw [Nat.zero_mul, Nat.zero_add]

/-- Where the network's direction is down. -/
theorem down_eq_false (l : Nat) (i : Fin (2 ^ 11)) : down l i = false ↔ i.val &&& 2 ^ l = 0 := by
  unfold down; simp

/-- A double step directed by group number is two stages of its level. -/
theorem pairG_col {e lk : Nat} (he : e < 7) (hl : e + 2 ≤ lk) (hk : lk ≤ 7) (v : FVec Ideal S2048x128 .f32) (l : Fin 128) :
    col (pairG e he (2 ^ lk) v) l
      = Network.apply (stage 11 e (down lk)) (Network.apply (stage 11 (e + 1) (down lk)) (col v l)) := by
  refine pair_col he _ (down lk) (fun a b s l => ⟨down lk ⟨pos e a 0 b s, pos_lt he a.isLt (by decide) b.isLt s.isLt⟩, ?_, ?_⟩) v l
  · intro c hc
    rw [Bool.eq_iff_iff, ← Bool.not_eq_false, ← Bool.not_eq_false, down_eq_false, down_eq_false]
    rw [pos_group he b.isLt hc hl hk, pos_group he b.isLt (by decide) hl hk]
  · have h := byGroup_apply (groupFacts e he) (4 * 2 ^ e) (2 ^ lk) (by interval_cases lk <;> norm_num) a b s l
      (by have := a.isLt; interval_cases e <;> norm_num at * <;> omega)
      (by have := a.isLt; interval_cases e <;> norm_num at * <;> omega) (by interval_cases e <;> norm_num)
    have h' := h.trans ((pos_group (c := 0) (s := s.val) he b.isLt (by decide) hl hk).symm.trans (down_eq_false lk ⟨pos e a 0 b s, pos_lt he a.isLt (by decide) b.isLt s.isLt⟩).symm)
    exact ⟨fun x y => (lower_some _ x y _ _ h').1, fun x y => (lower_some _ x y _ _ h').2⟩

/-- A double step directed by the row of eight is two stages of its level. -/
theorem pairR_col {e t : Nat} (he : e < 7) (ht : t ≤ 3) (v : FVec Ideal S2048x128 .f32) (l : Fin 128) :
    col (pairR e he (2 ^ t) v) l
      = Network.apply (stage 11 e (down (8 + t))) (Network.apply (stage 11 (e + 1) (down (8 + t))) (col v l)) := by
  refine pair_col he _ (down (8 + t)) (fun a b s l => ⟨down (8 + t) ⟨pos e a 0 b s, pos_lt he a.isLt (by decide) b.isLt s.isLt⟩, ?_, ?_⟩) v l
  · intro c hc
    rw [Bool.eq_iff_iff, ← Bool.not_eq_false, ← Bool.not_eq_false, down_eq_false, down_eq_false]
    rw [pos_row he a.isLt b.isLt hc ht, pos_row he a.isLt b.isLt (by decide) ht]
  · have h := byRow_apply (rowFacts e he) (2 ^ t) (by interval_cases t <;> norm_num) a b s l
    have h' := h.trans ((pos_row (c := 0) he a.isLt b.isLt (by decide) ht).symm.trans (down_eq_false (8 + t) ⟨pos e a 0 b s, pos_lt he a.isLt (by decide) b.isLt s.isLt⟩).symm)
    exact ⟨fun x y => (lower_some _ x y _ _ h').1, fun x y => (lower_some _ x y _ _ h').2⟩

/-- At the last level the direction is up everywhere. -/
theorem down_last (i : Fin (2 ^ 11)) : down 11 i = false := by
  rw [down_eq_false, and_two_pow_zero, Nat.div_eq_of_lt i.isLt]

/-- A double step directed upwards is two stages of the last level. -/
theorem pairUp_col {e : Nat} (he : e < 7) (v : FVec Ideal S2048x128 .f32) (l : Fin 128) :
    col (pairUp e he v) l
      = Network.apply (stage 11 e (down 11)) (Network.apply (stage 11 (e + 1) (down 11)) (col v l)) :=
  pair_col he none (down 11) (fun _ _ _ _ => ⟨false, fun _ _ => down_last _, fun _ _ => rfl, fun _ _ => rfl⟩) v l

/-- A half of every group in a single step, read at an index: the row it holds. -/
theorem half_apply (f : SingleFacts 128 1) (v : FVec Ideal S2048x128 .f32) (c : Fin 2) (o : Fin 5 → Nat)
    (ho : o = ![0, c.val, 0, 0, 0]) (hsl : (U5 128 1).Slices o (U5h 128 1)) (a : Fin 128) (s : Fin 8) (l : Fin 128)
    (r : Fin 2048) (hr : r.val = (a.val * 2 + c.val) * 8 + s.val) :
    shapeCast (U4 128 1) (extractStridedSlice (U5h 128 1) o (shapeCast (U5 128 1) v f.cast) hsl) f.drop (ix4 a (0 : Fin 1) s l)
      = v (ix2 r l) := by
  subst ho
  rw [shapeCast_apply _ _ _ (ix5 a (0 : Fin 1) (0 : Fin 1) s l) (by rw [place5, place4]; simp)]
  refine (congrArg (shapeCast (U5 128 1) v f.cast) (?_ : _ = ix5 a c (0 : Fin 1) s l)).trans ?_
  · funext x; refine Fin.ext ?_
    match x with
    | ⟨0, _⟩ => exact Nat.zero_add _
    | ⟨1, _⟩ => exact Nat.add_zero _
    | ⟨2, _⟩ => exact Nat.zero_add _
    | ⟨3, _⟩ => exact Nat.zero_add _
    | ⟨4, _⟩ => exact Nat.zero_add _
  · refine shapeCast_apply _ _ _ _ ?_
    rw [place5, place2, hr]
    simp

/-- The single step, read at a row: the lower or the upper entry of its pair. -/
theorem single_apply (m : Option (IVec (U4 128 1) 1)) (v : FVec Ideal S2048x128 .f32) (a : Fin 128) (c : Fin 2) (s : Fin 8)
    (l : Fin 128) (r r0 r1 : Fin 2048) (hr : r.val = (a.val * 2 + c.val) * 8 + s.val)
    (h0 : r0.val = (a.val * 2 + 0) * 8 + s.val) (h1 : r1.val = (a.val * 2 + 1) * 8 + s.val) (w : Bool)
    (hlo : ∀ x y : FVec Ideal (U4 128 1) .f32, lower m x y (ix4 a (0 : Fin 1) s l) = lo w (x (ix4 a (0 : Fin 1) s l)) (y (ix4 a (0 : Fin 1) s l)))
    (hhi : ∀ x y : FVec Ideal (U4 128 1) .f32, upper m x y (ix4 a (0 : Fin 1) s l) = hi w (x (ix4 a (0 : Fin 1) s l)) (y (ix4 a (0 : Fin 1) s l))) :
    single 128 1 singleFacts m v (ix2 r l)
      = if c = 0 then lo w (v (ix2 r0 l)) (v (ix2 r1 l)) else hi w (v (ix2 r0 l)) (v (ix2 r1 l)) := by
  have e0 := half_apply singleFacts v 0 ![0, 0, 0, 0, 0] rfl singleFacts.sl0 a s l r0 h0
  have e1 := half_apply singleFacts v 1 ![0, 1, 0, 0, 0] rfl singleFacts.sl1 a s l r1 h1
  unfold single
  rw [shapeCast_apply _ _ _ (ix5 a c (0 : Fin 1) s l) (by rw [place5, place2, hr]; simp)]
  match c with
  | 0 =>
    refine (concatenate_apply_piece (t := U5 128 1) 1 [⟨U5h 128 1, _⟩, ⟨U5h 128 1, _⟩] singleFacts.cat _ 0 (by decide : 0 < 2) _ _ rfl rfl 0 rfl
      (ix5 a (0 : Fin 1) (0 : Fin 1) s l) ?_ rfl).trans ?_
    · intro x hx; fin_cases x <;> first | rfl | exact absurd rfl hx
    · rw [shapeCast_apply _ _ _ (ix4 a (0 : Fin 1) s l) (by rw [place5, place4]; simp), hlo, e0, e1]; rfl
  | 1 =>
    refine (concatenate_apply_piece (t := U5 128 1) 1 [⟨U5h 128 1, _⟩, ⟨U5h 128 1, _⟩] singleFacts.cat _ 1 (by decide : 1 < 2) _ _ rfl rfl 1 rfl
      (ix5 a (0 : Fin 1) (0 : Fin 1) s l) ?_ rfl).trans ?_
    · intro x hx; fin_cases x <;> first | rfl | exact absurd rfl hx
    · rw [shapeCast_apply _ _ _ (ix4 a (0 : Fin 1) s l) (by rw [place5, place4]; simp), hhi, e0, e1]; rfl

/-- The single step is the stage at distance one of its level. -/
theorem singleG_col {lk : Nat} (h1 : 1 ≤ lk) (hk : lk ≤ 7) (v : FVec Ideal S2048x128 .f32) (l : Fin 128) :
    col (singleG (2 ^ lk) v) l = Network.apply (stage 11 0 (down lk)) (col v l) := by
  funext i
  have hlt := i.isLt
  norm_num at hlt
  let a : Fin 128 := ⟨i.val % 256 / 2, by omega⟩
  let s : Fin 8 := ⟨i.val / 256, by omega⟩
  let i0 : Fin (2 ^ 11) := ⟨i.val / 2 * 2, by norm_num; omega⟩
  let i1 : Fin (2 ^ 11) := ⟨i.val / 2 * 2 + 1, by norm_num; omega⟩
  have b0 : i0.val &&& 2 ^ 0 = 0 := by rw [and_two_pow_zero]; show i.val / 2 * 2 / 2 ^ 0 % 2 = 0; norm_num
  have b1 : i1.val = i0.val + 2 ^ 0 := rfl
  have h := byGroup_apply groupFacts_single 2 (2 ^ lk) (by interval_cases lk <;> norm_num) a (0 : Fin 1) s l
    (by have := a.isLt; omega) (by have := a.isLt; omega) (by decide)
  have hbit : i0.val &&& 2 ^ lk = 0 ↔ (a.val * 2) &&& 2 ^ lk = 0 := by
    rw [and_two_pow_zero, and_two_pow_zero]
    show i.val / 2 * 2 / 2 ^ lk % 2 = 0 ↔ i.val % 256 / 2 * 2 / 2 ^ lk % 2 = 0
    interval_cases lk <;> norm_num <;> omega
  have h' := h.trans (hbit.symm.trans (down_eq_false lk i0).symm)
  have r0 : (row i0).val = (a.val * 2 + 0) * 8 + s.val := by
    show i.val / 2 * 2 % 256 * 8 + i.val / 2 * 2 / 256 = (i.val % 256 / 2 * 2 + 0) * 8 + i.val / 256; omega
  have r1 : (row i1).val = (a.val * 2 + 1) * 8 + s.val := by
    show (i.val / 2 * 2 + 1) % 256 * 8 + (i.val / 2 * 2 + 1) / 256 = (i.val % 256 / 2 * 2 + 1) * 8 + i.val / 256; omega
  have main := fun (c : Fin 2) (r : Fin 2048) hr => single_apply (some (byGroup 128 1 groupFacts_single 2#32 (BitVec.ofNat 32 (2 ^ lk)))) v a c s l
    r (row i0) (row i1) hr r0 r1 (down lk i0) (fun x y => (lower_some _ x y _ _ h').1) (fun x y => (lower_some _ x y _ _ h').2)
  rcases Nat.mod_two_eq_zero_or_one i.val with hp | hp
  · have hi : i = i0 := Fin.ext (show i.val = i.val / 2 * 2 by omega)
    rw [hi, stage_lo (by decide) (down lk) _ i0 i1 b0 b1]
    exact main 0 (row i0) r0
  · have hi : i = i1 := Fin.ext (show i.val = i.val / 2 * 2 + 1 by omega)
    rw [hi, stage_hi (by decide) (down lk) _ i0 i1 b0 b1]
    exact main 1 (row i1) r1

/-- Bit `d` of a row's number among eight, as the kernel tests it. -/
theorem clearBit_apply (k : Nat) (hk : k < 2 ^ 31) (r : Fin 2048) :
    clearBit sublaneFacts (BitVec.ofNat 32 k) (ix2 r (0 : Fin 1)) = 1 ↔ r.val % 8 &&& k = 0 := by
  rw [← bit_test _ _ (by omega) hk]
  show Scalar.cmpi .eq ((BitVec.ofNat 32 (0 * 2048 + r.val) &&& 7#32) &&& BitVec.ofNat 32 k) 0#32 = 1 ↔ _
  have e : BitVec.ofNat 32 (0 * 2048 + r.val) &&& 7#32 = BitVec.ofNat 32 (r.val % 8) := by
    apply BitVec.eq_of_toNat_eq
    simp only [BitVec.toNat_and, BitVec.toNat_ofNat]
    have := r.isLt
    rw [Nat.mod_eq_of_lt (by omega), Nat.mod_eq_of_lt (by omega : r.val % 8 < 2 ^ 32), Nat.zero_mul, Nat.zero_add]
    exact Nat.and_two_pow_sub_one_eq_mod r.val 3
  rw [e]

/-- A mask over rows, read at a row and column. -/
theorem alongRows_apply (m : IVec S2048x1 1) (r : Fin 2048) (l : Fin 128) :
    alongRows sublaneFacts m (ix2 r l) = m (ix2 r (0 : Fin 1)) := by
  unfold alongRows
  rw [broadcastTo_apply _ _ _ (ix2 r (0 : Fin 1)) (by
    intro x
    match x with
    | ⟨0, _⟩ => rfl
    | ⟨1, _⟩ => rfl)]
  exact shapeCast_apply _ _ _ _ rfl

/-- A rotation of the rows, read at a row and column. -/
theorem rotate_apply (v : FVec Ideal S2048x128 .f32) (n : Nat) (hn : n < 2048) (r r' : Fin 2048) (l : Fin 128)
    (h : r'.val = (r.val + 2048 - n) % 2048) :
    dynamicRotate 0 (BitVec.ofNat 32 n) none v sublaneFacts.rot (ix2 r l) = v (ix2 r' l) := by
  unfold dynamicRotate
  refine congrArg v ?_
  funext x; refine Fin.ext ?_
  match x with
  | ⟨0, _⟩ =>
    show (r.val + 2048 - (n % 2 ^ 32) % 2048) % 2048 = r'.val
    rw [h, Nat.mod_eq_of_lt (by omega : n < 2 ^ 32), Nat.mod_eq_of_lt hn]
  | ⟨1, _⟩ => rfl

/-- A bit from the eighth on is a bit of the quotient by 256. -/
theorem high_bit (x t : Nat) : x / 2 ^ (8 + t) % 2 = x / 256 / 2 ^ t % 2 := by
  rw [Nat.pow_add, ← Nat.div_div_eq_div_mul]

/-- The rows of two positions that differ in one of the bits 8, 9, 10 are that many rows apart, and that bit of the row's
    number among eight is clear in the first and set in the second. -/
theorem rows_apart {t x y : Nat} (ht : t ≤ 2) (hy : y < 2048) (h : x / 2 ^ (8 + t) % 2 = 0) (hxy : y = x + 2 ^ (8 + t)) :
    (x % 256 * 8 + x / 256) % 8 / 2 ^ t % 2 = 0 ∧ (y % 256 * 8 + y / 256) % 8 / 2 ^ t % 2 ≠ 0 ∧
    y % 256 * 8 + y / 256 = (x % 256 * 8 + x / 256 + 2048 - (2048 - 2 ^ t)) % 2048 ∧
    x % 256 * 8 + x / 256 = (y % 256 * 8 + y / 256 + 2048 - 2 ^ t) % 2048 := by
  rw [high_bit] at h
  have e1 : y = x + 256 * 2 ^ t := by rw [hxy, Nat.pow_add]
  have e2 : y % 256 = x % 256 := by rw [e1, Nat.add_mul_mod_self_left]
  have e3 : y / 256 = x / 256 + 2 ^ t := by rw [e1, Nat.add_mul_div_left _ _ (by decide)]
  have hb : y / 256 < 8 := by omega
  have ha : x % 256 < 256 := Nat.mod_lt _ (by decide)
  rw [e2, e3]; rw [e3] at hb
  generalize x % 256 = a at *
  generalize x / 256 = b at *
  have m1 : (a * 8 + b) % 8 = b := by omega
  have m2 : (a * 8 + (b + 2 ^ t)) % 8 = b + 2 ^ t := by omega
  rw [m1, m2]
  clear e1 e2 e3 hxy hy
  interval_cases t <;> simp only [Nat.reducePow, Nat.reduceAdd, Nat.reduceSub] at * <;> omega

/-- Bits above of the row's number among eight are those of the first position, in both rows. -/
theorem rows_above {t u x y : Nat} (htu : t < u) (hu : u ≤ 2) (hy : y < 2048) (h : x / 2 ^ (8 + t) % 2 = 0)
    (hxy : y = x + 2 ^ (8 + t)) :
    ((x % 256 * 8 + x / 256) % 8 / 2 ^ u % 2 = 0 ↔ x / 2 ^ (8 + u) % 2 = 0) ∧
    ((y % 256 * 8 + y / 256) % 8 / 2 ^ u % 2 = 0 ↔ x / 2 ^ (8 + u) % 2 = 0) := by
  rw [high_bit] at h
  rw [high_bit]
  have e1 : y = x + 256 * 2 ^ t := by rw [hxy, Nat.pow_add]
  have e3 : y / 256 = x / 256 + 2 ^ t := by rw [e1, Nat.add_mul_div_left _ _ (by decide)]
  have hb : y / 256 < 8 := by omega
  rw [e3]; rw [e3] at hb
  generalize x % 256 = a at *
  generalize y % 256 = a' at *
  generalize x / 256 = b at *
  have m1 : (a * 8 + b) % 8 = b := by omega
  have m2 : (a' * 8 + (b + 2 ^ t)) % 8 = b + 2 ^ t := by omega
  rw [m1, m2]
  have hb8 : b < 8 := by omega
  clear m1 m2 e1 e3 hxy hy
  interval_cases u <;> interval_cases t <;> interval_cases b <;> revert h hb <;> decide

/-- The rows a step among eight compares, in positions: the row at the other value of the bit. -/
theorem partnerRows_apply {t : Nat} (ht : t ≤ 2) (v : FVec Ideal S2048x128 .f32) (l : Fin 128) (i j : Fin (2 ^ 11))
    (hi : i.val &&& 2 ^ (8 + t) = 0) (hj : j.val = i.val + 2 ^ (8 + t)) :
    partnerRows sublaneFacts (BitVec.ofNat 32 (2 ^ t)) (BitVec.ofNat 32 (2048 - 2 ^ t)) v (ix2 (row i) l) = col v l j
      ∧ partnerRows sublaneFacts (BitVec.ofNat 32 (2 ^ t)) (BitVec.ofNat 32 (2048 - 2 ^ t)) v (ix2 (row j) l) = col v l i
      ∧ (clearBit sublaneFacts (BitVec.ofNat 32 (2 ^ t)) (ix2 (row i) (0 : Fin 1)) = 1)
      ∧ ¬ (clearBit sublaneFacts (BitVec.ofNat 32 (2 ^ t)) (ix2 (row j) (0 : Fin 1)) = 1) := by
  rw [and_two_pow_zero] at hi
  obtain ⟨z1, z2, z3, z4⟩ := rows_apart ht j.isLt hi hj
  have hk : 2 ^ t < 2 ^ 31 := by interval_cases t <;> norm_num
  have hk' : 2 ^ t < 2048 := by interval_cases t <;> norm_num
  have h1 : clearBit sublaneFacts (BitVec.ofNat 32 (2 ^ t)) (ix2 (row i) (0 : Fin 1)) = 1 := by
    rw [clearBit_apply _ hk, and_two_pow_zero]; exact z1
  have h2 : ¬ (clearBit sublaneFacts (BitVec.ofNat 32 (2 ^ t)) (ix2 (row j) (0 : Fin 1)) = 1) := by
    rw [clearBit_apply _ hk, and_two_pow_zero]; exact z2
  have read : ∀ r : Fin 2048, partnerRows sublaneFacts (BitVec.ofNat 32 (2 ^ t)) (BitVec.ofNat 32 (2048 - 2 ^ t)) v (ix2 r l)
      = if clearBit sublaneFacts (BitVec.ofNat 32 (2 ^ t)) (ix2 r (0 : Fin 1)) = 1
        then dynamicRotate 0 (BitVec.ofNat 32 (2048 - 2 ^ t)) none v sublaneFacts.rot (ix2 r l)
        else dynamicRotate 0 (BitVec.ofNat 32 (2 ^ t)) none v sublaneFacts.rot (ix2 r l) := by
    intro r
    rw [← alongRows_apply (clearBit sublaneFacts (BitVec.ofNat 32 (2 ^ t))) r l]; rfl
  refine ⟨?_, ?_, h1, h2⟩
  · rw [read, if_pos h1, rotate_apply v _ (by have := Nat.two_pow_pos t; omega) (row i) (row j) l z3]
    rfl
  · rw [read, if_neg h2, rotate_apply v _ hk' (row j) (row i) l z4]
    rfl

/-- Comparing with a partner and keeping the smaller where `m` holds, read at the two rows of a pair. -/
theorem keep_stage {t : Nat} (ht : t ≤ 2) (m : IVec S2048x1 1) (w : Fin (2 ^ 11) → Bool) (v : FVec Ideal S2048x128 .f32)
    (l : Fin 128)
    (hm : ∀ i j : Fin (2 ^ 11), i.val &&& 2 ^ (8 + t) = 0 → j.val = i.val + 2 ^ (8 + t) →
      (m (ix2 (row i) (0 : Fin 1)) = 1 ↔ w i = false) ∧ (m (ix2 (row j) (0 : Fin 1)) = 1 ↔ w i = true)) :
    col (select (alongRows sublaneFacts m)
      (minimumf v (partnerRows sublaneFacts (BitVec.ofNat 32 (2 ^ t)) (BitVec.ofNat 32 (2048 - 2 ^ t)) v))
      (maximumf v (partnerRows sublaneFacts (BitVec.ofNat 32 (2 ^ t)) (BitVec.ofNat 32 (2048 - 2 ^ t)) v))) l
      = Network.apply (stage 11 (8 + t) w) (col v l) := by
  have read : ∀ i : Fin (2 ^ 11), col (select (alongRows sublaneFacts m)
      (minimumf v (partnerRows sublaneFacts (BitVec.ofNat 32 (2 ^ t)) (BitVec.ofNat 32 (2048 - 2 ^ t)) v))
      (maximumf v (partnerRows sublaneFacts (BitVec.ofNat 32 (2 ^ t)) (BitVec.ofNat 32 (2048 - 2 ^ t)) v))) l i
      = if m (ix2 (row i) (0 : Fin 1)) = 1
        then min (col v l i) (partnerRows sublaneFacts (BitVec.ofNat 32 (2 ^ t)) (BitVec.ofNat 32 (2048 - 2 ^ t)) v (ix2 (row i) l))
        else max (col v l i) (partnerRows sublaneFacts (BitVec.ofNat 32 (2 ^ t)) (BitVec.ofNat 32 (2048 - 2 ^ t)) v (ix2 (row i) l)) := by
    intro i
    rw [← alongRows_apply m (row i) l]; rfl
  funext k
  rw [read]
  by_cases hk : k.val &&& 2 ^ (8 + t) = 0
  · let j := partner 11 (8 + t) k
    have hj : j.val = k.val + 2 ^ (8 + t) := partner_val_of_clear (by omega) k hk
    obtain ⟨p1, p2, -, -⟩ := partnerRows_apply ht v l k j hk hj
    rw [stage_lo (by omega) w _ k j hk hj, p1]
    obtain ⟨m1, m2⟩ := hm k j hk hj
    unfold lo
    cases hw : w k
    · rw [if_pos (m1.mpr hw), if_neg (by decide)]
    · rw [if_neg (fun h => by rw [m1.mp h] at hw; exact Bool.noConfusion hw), if_pos rfl]
  · let i := partner 11 (8 + t) k
    obtain ⟨hle, hval⟩ := partner_val_of_set (p := 11) (by omega) k hk
    have hk' : k.val = i.val + 2 ^ (8 + t) := by show _ = (partner 11 (8 + t) k).val + _; omega
    have hi : i.val &&& 2 ^ (8 + t) = 0 := by
      by_contra hc
      have h2 := partner_and_of_set (p := 11) (s := 8 + t) (by omega) k hk
      exact hc h2
    obtain ⟨p1, p2, -, -⟩ := partnerRows_apply ht v l i k hi hk'
    rw [stage_hi (by omega) w _ i k hi hk', p2]
    obtain ⟨m1, m2⟩ := hm i k hi hk'
    unfold Sorting.hi
    cases hw : w i
    · rw [if_neg (fun h => by rw [m2.mp h] at hw; exact Bool.noConfusion hw), if_neg (by decide), max_comm]
    · rw [if_pos (m2.mpr hw), if_pos rfl, min_comm]

/-- A step among eight rows, directed by another bit, is the stage at its distance. -/
theorem eightR_col {t u : Nat} (htu : t < u) (hu : u ≤ 2) (v : FVec Ideal S2048x128 .f32) (l : Fin 128) :
    col (eightR (2 ^ t) (2 ^ u) v) l = Network.apply (stage 11 (8 + t) (down (8 + u))) (col v l) := by
  refine keep_stage (by omega) _ _ v l (fun i j hi hj => ?_)
  obtain ⟨-, -, c1, c2⟩ := partnerRows_apply (t := t) (by omega) v l i j hi hj
  obtain ⟨z1, z2⟩ := rows_above htu hu j.isLt ((and_two_pow_zero _ _).mp hi) hj
  have k1 := clearBit_apply (2 ^ u) (by interval_cases u <;> norm_num) (row i)
  have k2 := clearBit_apply (2 ^ u) (by interval_cases u <;> norm_num) (row j)
  have b1 : (row i).val % 8 &&& 2 ^ u = 0 ↔ i.val &&& 2 ^ (8 + u) = 0 := by
    rw [and_two_pow_zero, and_two_pow_zero]; exact z1
  have b2 : (row j).val % 8 &&& 2 ^ u = 0 ↔ i.val &&& 2 ^ (8 + u) = 0 := by
    rw [and_two_pow_zero, and_two_pow_zero]; exact z2
  have d1 := (k1.trans b1).trans (down_eq_false (8 + u) i).symm
  have d2 := (k2.trans b2).trans (down_eq_false (8 + u) i).symm
  have xor3 : ∀ a b : BitVec 1, (a ^^^ b ^^^ 1#1 = 1) ↔ (a = 1 ↔ b = 1) := by decide
  constructor
  · refine (xor3 (clearBit _ _ _) (clearBit _ _ _)).trans ?_
    rw [d1]; exact ⟨fun h => h.mp c1, fun h => ⟨fun _ => h, fun _ => c1⟩⟩
  · refine (xor3 (clearBit _ _ _) (clearBit _ _ _)).trans ?_
    rw [d2, ← Bool.not_eq_false]; exact ⟨fun h hf => c2 (h.mpr hf), fun h => ⟨fun hc => absurd hc c2, fun hf => absurd hf h⟩⟩

/-- A step among eight rows, directed upwards, is the stage at its distance of the last level. -/
theorem eightUp_col {t : Nat} (ht : t ≤ 2) (v : FVec Ideal S2048x128 .f32) (l : Fin 128) :
    col (eightUp (2 ^ t) v) l = Network.apply (stage 11 (8 + t) (down 11)) (col v l) := by
  refine keep_stage ht _ _ v l (fun i j hi hj => ?_)
  obtain ⟨-, -, c1, c2⟩ := partnerRows_apply (t := t) ht v l i j hi hj
  rw [down_last]
  exact ⟨⟨fun _ => rfl, fun _ => c1⟩, ⟨fun h => absurd h c2, fun h => Bool.noConfusion h⟩⟩

end Cert.KernelIdeal.Body
-- ==== Proof.Lookup.lean ====
module

public import proofs.«01_k».proof.Proof.Tail
public import proofs.«01_k».proof.Proof.Steps
public import Idealize.ShloMosaic.PureOps.IdealRules
public import Mathlib.Tactic.IntervalCases
public import Mathlib.Tactic.NormNum
public import Mathlib.Tactic.Ring
public import Mathlib.Tactic.FinCases

@[expose] public section

set_option maxRecDepth 16384

noncomputable section

/-! # What the lookup finds

The table holds quantile `8 j + i` in row `8 i + j`. When the quantiles grow and exactly the first `N` of them are at most the
entry, the kernel's count is `N`, its lower neighbour is quantile `N - 1` and its upper one is quantile `N`. -/

namespace Cert.KernelIdeal.Body

open Cert.KernelIdeal Cert.KernelIdeal.Gen Idealize.ShloMosaic Idealize.ShloMosaic.ValueIdx

/-- A comparison of extended reals chooses. -/
theorem choose_le {α : Type} (a b : EReal) (x y : α) :
    Scalar.select (Ideal.cmp .ole a b) x y = if a ≤ b then x else y := by
  unfold Scalar.select Ideal.cmp
  by_cases h : a ≤ b <;> simp [h]

/-- A strict comparison chooses. -/
theorem choose_lt {α : Type} (a b : EReal) (x y : α) :
    Scalar.select (Ideal.cmp .olt a b) x y = if a < b then x else y := by
  unfold Scalar.select Ideal.cmp
  by_cases h : a < b <;> simp [h]

/-- The reversed strict comparison chooses. -/
theorem choose_gt {α : Type} (a b : EReal) (x y : α) :
    Scalar.select (Ideal.cmp .ogt a b) x y = if b < a then x else y := by
  unfold Scalar.select Ideal.cmp
  by_cases h : b < a <;> simp [h]

/-- The word of a comparison. -/
theorem word_le (a b : EReal) : (Ideal.cmp .ole a b).setWidth 32 = if a ≤ b then 1#32 else 0#32 := by
  unfold Ideal.cmp
  by_cases h : a ≤ b <;> simp [h]

/-- Row `n` of a table, at one column. -/
def entry (q : FVec Ideal S64x128 .f32) (l : Fin 128) (n : Nat) : EReal :=
  q (ix2 (⟨n % 64, Nat.mod_lt n (by decide)⟩ : Fin 64) l)

section At
variable (q : FVec Ideal S64x128 .f32) (x : FVec Ideal S2048x128 .f32) (b : IVec S2048x128 32) (r : Fin 2048) (l : Fin 128)

theorem rowB_at (n : Nat) : rowB q n (ix2 r l) = entry q l n := by
  unfold rowB
  rw [broadcastTo_apply _ _ _ (ix2 (0 : Fin 1) l) (by intro a; fin_cases a <;> rfl)]
  exact extractStridedSlice_apply _ _ _ _ _ (by intro a; fin_cases a <;> simp [ix2])

theorem rowC_at (n : Nat) : rowC q n (ix2 r l) = entry q l n := by
  unfold rowC
  rw [shapeCast_self]
  exact rowB_at q r l n

/-- The padding value is the top of the extended reals. -/
theorem bigs_at : (bigs : FVec Ideal S2048x128 .f32) (ix2 r l) = ⊤ := by
  have h : (bigs : FVec Ideal S2048x128 .f32) (ix2 r l) = Named.named (F := Ideal) (φ := .f32) κ "big" 0x7F61B1E6#32 := rfl
  exact h.trans (IdealRules.named_const.statement κ "big" .f32 0x7F61B1E6#32 ⊤ rfl).2.2

/-- Its negative is the bottom. -/
theorem negBigs_at : (negBigs : FVec Ideal S2048x128 .f32) (ix2 r l) = ⊥ := by
  have h : (negBigs : FVec Ideal S2048x128 .f32) (ix2 r l)
      = Ideal.ofBits .f32 0x00000000#32 - (bigs : FVec Ideal S2048x128 .f32) (ix2 r l) := rfl
  rw [h, bigs_at]
  simp [Ideal.ofBits, Ideal.ieee]

theorem coarseCount_at (n : Nat) : coarseCount q x (n + 1) (ix2 r l)
    = coarseCount q x n (ix2 r l) + (if entry q l (56 + n) ≤ x (ix2 r l) then 1#32 else 0#32) := by
  have h : coarseCount q x (n + 1) (ix2 r l)
    = coarseCount q x n (ix2 r l) + (Ideal.cmp .ole (rowB q (56 + n) (ix2 r l)) (x (ix2 r l))).setWidth 32 := rfl
  rw [h, rowB_at, word_le]

theorem coarseMax_at (n : Nat) : coarseMax q x (n + 1) (ix2 r l)
    = if entry q l (56 + n) ≤ x (ix2 r l) then entry q l (56 + n) else coarseMax q x n (ix2 r l) := by
  have h : coarseMax q x (n + 1) (ix2 r l)
    = Scalar.select (Ideal.cmp .ole (rowB q (56 + n) (ix2 r l)) (x (ix2 r l))) (rowC q (56 + n) (ix2 r l)) (coarseMax q x n (ix2 r l)) := rfl
  rw [h, rowB_at, rowC_at, choose_le]

/-- The selection among eight by the bits of a number below eight. -/
theorem pick_at (n j : Nat) (hj : j < 8) (hb : b (ix2 r l) = BitVec.ofNat 32 j) :
    pick q b n (ix2 r l) = entry q l (n * 8 + j) := by
  have h : pick q b n (ix2 r l) =
      (let m := fun k : BitVec 32 => IntOp.cmpi .sgt (IntOp.andi (b (ix2 r l)) k) 0#32
       Scalar.select (m 4#32)
        (Scalar.select (m 2#32) (Scalar.select (m 1#32) (rowC q (n * 8 + 7) (ix2 r l)) (rowC q (n * 8 + 6) (ix2 r l)))
          (Scalar.select (m 1#32) (rowC q (n * 8 + 5) (ix2 r l)) (rowC q (n * 8 + 4) (ix2 r l))))
        (Scalar.select (m 2#32) (Scalar.select (m 1#32) (rowC q (n * 8 + 3) (ix2 r l)) (rowC q (n * 8 + 2) (ix2 r l)))
          (Scalar.select (m 1#32) (rowC q (n * 8 + 1) (ix2 r l)) (rowC q (n * 8) (ix2 r l))))) := rfl
  rw [h, hb]
  simp only [rowC_at]
  clear h hb
  interval_cases j <;> rfl

theorem fineCount_at (n : Nat) : fineCount q x b (n + 1) (ix2 r l)
    = fineCount q x b n (ix2 r l) + (if pick q b n (ix2 r l) ≤ x (ix2 r l) then ((1 : ℝ) : EReal) else ((0 : ℝ) : EReal)) := by
  have h : fineCount q x b (n + 1) (ix2 r l)
    = fineCount q x b n (ix2 r l)
      + (((((Ideal.cmp .ole (pick q b n (ix2 r l)) (x (ix2 r l))).setWidth 32).toInt : Int) : ℝ) : EReal) := rfl
  rw [h, word_le]
  split <;> simp

theorem fineLast_at (n : Nat) : fineLast q x b (n + 1) (ix2 r l)
    = if pick q b n (ix2 r l) ≤ x (ix2 r l) then pick q b n (ix2 r l) else fineLast q x b n (ix2 r l) :=
  choose_le _ _ _ _

theorem fineNext_at (n : Nat) : fineNext q x b (n + 1) (ix2 r l)
    = min (fineNext q x b n (ix2 r l)) (if pick q b n (ix2 r l) ≤ x (ix2 r l) then ⊤ else pick q b n (ix2 r l)) := by
  have h : fineNext q x b (n + 1) (ix2 r l)
    = min (fineNext q x b n (ix2 r l)) (Scalar.select (Ideal.cmp .ole (pick q b n (ix2 r l)) (x (ix2 r l)))
        ((bigs : FVec Ideal S2048x128 .f32) (ix2 r l)) (pick q b n (ix2 r l))) := rfl
  rw [h, bigs_at, choose_le]

end At

/-- The table's column in the order of the levels, and where the entry falls in it. -/
structure Placed (q : FVec Ideal S64x128 .f32) (l : Fin 128) (Q : Nat → EReal) (y : EReal) (N : Nat) : Prop where
  table : ∀ i j, i < 8 → j < 8 → entry q l (i * 8 + j) = Q (8 * j + i)
  grows : ∀ k k', k ≤ k' → k' < 64 → Q k ≤ Q k'
  small : N ≤ 64
  place : ∀ k, k < 64 → (Q k ≤ y ↔ k < N)

section Found
variable {q : FVec Ideal S64x128 .f32} {x : FVec Ideal S2048x128 .f32} {b : IVec S2048x128 32} {r : Fin 2048} {l : Fin 128}
  {Q : Nat → EReal} {N : Nat}

theorem Placed.coarse (h : Placed q l Q (x (ix2 r l)) N) (n : Nat) (hn : n < 7) :
    entry q l (56 + n) = Q (8 * n + 7) ∧ (entry q l (56 + n) ≤ x (ix2 r l) ↔ n < N / 8) := by
  have e : entry q l (56 + n) = Q (8 * n + 7) := h.table 7 n (by omega) (by omega)
  refine ⟨e, ?_⟩
  rw [e, h.place _ (by omega)]
  omega

/-- The count of coarse thresholds. -/
theorem Placed.coarseCount (h : Placed q l Q (x (ix2 r l)) N) (n : Nat) (hn : n ≤ 7) :
    Body.coarseCount q x n (ix2 r l) = BitVec.ofNat 32 (min n (N / 8)) := by
  induction n with
  | zero => rw [Nat.zero_min]; rfl
  | succ n ih =>
    rw [coarseCount_at, ih (by omega)]
    simp only [(h.coarse n (by omega)).2]
    by_cases c : n < N / 8
    · rw [if_pos c, show min (n + 1) (N / 8) = min n (N / 8) + 1 by omega, BitVec.ofNat_add]
    · rw [if_neg c, show min (n + 1) (N / 8) = min n (N / 8) by omega, BitVec.add_zero]

/-- The last coarse threshold. -/
theorem Placed.coarseMax (h : Placed q l Q (x (ix2 r l)) N) (n : Nat) (hn : n ≤ 7) :
    Body.coarseMax q x n (ix2 r l) = if min n (N / 8) = 0 then ⊥ else Q (8 * min n (N / 8) - 1) := by
  induction n with
  | zero => rw [if_pos (Nat.zero_min _)]; exact negBigs_at r l
  | succ n ih =>
    rw [coarseMax_at, ih (by omega)]
    simp only [(h.coarse n (by omega)).2]
    rw [(h.coarse n (by omega)).1]
    by_cases c : n < N / 8
    · rw [if_pos c, if_neg (by omega), show 8 * min (n + 1) (N / 8) - 1 = 8 * n + 7 by omega]
    · rw [if_neg c, show min (n + 1) (N / 8) = min n (N / 8) by omega]

/-- The number of the group the entry falls in. -/
def group (N : Nat) : Nat := min 7 (N / 8)
theorem group_lt (N : Nat) : group N < 8 := by unfold group; omega
/-- The number of quantiles of its group that are at most the entry. -/
def rest (N : Nat) : Nat := N - 8 * group N
theorem group_rest (N : Nat) (h : N ≤ 64) : 8 * group N + rest N = N ∧ rest N ≤ 8 := by
  unfold rest group; omega

theorem Placed.pick (h : Placed q l Q (x (ix2 r l)) N) (hb : b (ix2 r l) = BitVec.ofNat 32 (group N)) (n : Nat) (hn : n < 8) :
    Body.pick q b n (ix2 r l) = Q (8 * group N + n) ∧ (Body.pick q b n (ix2 r l) ≤ x (ix2 r l) ↔ n < rest N) := by
  have e : Body.pick q b n (ix2 r l) = Q (8 * group N + n) := by
    rw [pick_at q b r l n (group N) (group_lt N) hb, h.table n (group N) hn (group_lt N)]
  refine ⟨e, ?_⟩
  have := group_rest N h.small
  have := group_lt N
  rw [e, h.place _ (by omega)]
  omega

/-- The count inside the group. -/
theorem Placed.fineCount (h : Placed q l Q (x (ix2 r l)) N) (hb : b (ix2 r l) = BitVec.ofNat 32 (group N)) (n : Nat) (hn : n ≤ 8) :
    Body.fineCount q x b n (ix2 r l) = (((min n (rest N) : Nat) : ℝ) : EReal) := by
  induction n with
  | zero =>
    have e : Body.fineCount q x b 0 (ix2 r l) = Ideal.ofBits .f32 0x00000000#32 := rfl
    rw [e, Nat.zero_min]
    simp [Ideal.ofBits, Ideal.ieee]
  | succ n ih =>
    rw [fineCount_at, ih (by omega)]
    simp only [(h.pick hb n (by omega)).2]
    by_cases c : n < rest N
    · rw [if_pos c, show min (n + 1) (rest N) = min n (rest N) + 1 by omega, ← EReal.coe_add]; push_cast; rfl
    · rw [if_neg c, show min (n + 1) (rest N) = min n (rest N) by omega, ← EReal.coe_add, add_zero]

/-- The last quantile of the group at most the entry. -/
theorem Placed.fineLast (h : Placed q l Q (x (ix2 r l)) N) (hb : b (ix2 r l) = BitVec.ofNat 32 (group N)) (n : Nat) (hn : n ≤ 8) :
    Body.fineLast q x b n (ix2 r l) = if min n (rest N) = 0 then ⊥ else Q (8 * group N + min n (rest N) - 1) := by
  induction n with
  | zero => rw [if_pos (Nat.zero_min _)]; exact negBigs_at r l
  | succ n ih =>
    rw [fineLast_at, ih (by omega)]
    simp only [(h.pick hb n (by omega)).2]
    rw [(h.pick hb n (by omega)).1]
    by_cases c : n < rest N
    · rw [if_pos c, if_neg (by omega), show 8 * group N + min (n + 1) (rest N) - 1 = 8 * group N + n by omega]
    · rw [if_neg c, show min (n + 1) (rest N) = min n (rest N) by omega]

/-- The first quantile of the group above the entry. -/
theorem Placed.fineNext (h : Placed q l Q (x (ix2 r l)) N) (hb : b (ix2 r l) = BitVec.ofNat 32 (group N)) (n : Nat) (hn : n ≤ 8) :
    Body.fineNext q x b n (ix2 r l) = if n ≤ rest N then ⊤ else Q (8 * group N + rest N) := by
  induction n with
  | zero => rw [if_pos (Nat.zero_le _)]; exact bigs_at r l
  | succ n ih =>
    rw [fineNext_at, ih (by omega)]
    simp only [(h.pick hb n (by omega)).2]
    rw [(h.pick hb n (by omega)).1]
    have := group_lt N
    by_cases c : n < rest N
    · rw [if_pos c, if_pos (by omega), if_pos (by omega), min_self]
    · rw [if_neg c, if_neg (show ¬ n + 1 ≤ rest N by omega)]
      by_cases d : n ≤ rest N
      · rw [if_pos d, show rest N = n by omega, min_eq_right le_top]
      · rw [if_neg d, min_eq_left (h.grows _ _ (by omega) (by omega))]

end Found

end Cert.KernelIdeal.Body
-- ==== Proof.Finish.lean ====
module

public import proofs.«01_k».proof.Proof.Lookup
public import proofs.«01_k».proof.Proof.Gen.KernelIdeal.Value

@[expose] public section

set_option maxRecDepth 16384

noncomputable section

/-! # From the neighbours to the result

The kernel interpolates the level between the two neighbouring quantiles, clips it, and applies the inverse normal
distribution function by its polynomial expansion. First the vectors, then one entry. -/

namespace Cert.KernelIdeal.Body

open Cert.KernelIdeal Cert.KernelIdeal.Gen Idealize.ShloMosaic Idealize.ShloMosaic.TcCoe Idealize.SL.Sem
open Idealize.ShloMosaic.ValueIdx
open Cert.KernelIdeal.Gen.kernelRun0_A

section Vectors
variable {F : FTy → Type} [FloatOps F] [Named F]

/-- A constant block. -/
def all (b : BitVec 32) : FVec F S2048x128 .f32 := broadcast S2048x128 (Scalar.ofBits .f32 b)

/-- The whole count. -/
def wholeV (b : IVec S2048x128 32) (f : FVec F S2048x128 .f32) : FVec F S2048x128 .f32 :=
  addf (mulf (sitofp .f32 b) (all 0x41000000#32)) f

/-- The lower neighbour. -/
def lowV (q : FVec F S64x128 .f32) (cnt f coarse last : FVec F S2048x128 .f32) : FVec F S2048x128 .f32 :=
  select (cmpf .ogt cnt (all 0x427E0000#32)) (rowC q 55)
    (select (cmpf .olt cnt (all 0x3F000000#32)) (rowC q 0) (select (cmpf .olt f (all 0x3F000000#32)) coarse last))

/-- The upper neighbour. -/
def highV (q : FVec F S64x128 .f32) (cnt next : FVec F S2048x128 .f32) : FVec F S2048x128 .f32 :=
  select (cmpf .ogt cnt (all 0x427E0000#32)) (rowC q 63) (select (cmpf .olt cnt (all 0x3F000000#32)) (rowC q 8) next)

/-- The level of the lower neighbour. -/
def levelV (cnt : FVec F S2048x128 .f32) : FVec F S2048x128 .f32 :=
  mulf (subf (minimumf (all 0x427C0000#32) (maximumf (all 0x3F800000#32) cnt)) (all 0x3F000000#32)) (all 0x3C800000#32)

/-- The interpolated and clipped level, scaled to the interval from -1 to 1. -/
def signedV (x cnt low high : FVec F S2048x128 .f32) : FVec F S2048x128 .f32 :=
  subf (mulf (all 0x40000000#32) (minimumf (all 0x3F7FFFEF#32) (maximumf (all 0x358637BD#32)
    (addf (levelV cnt) (mulf (divf (all 0x3C800000#32) (maximumf (subf high low) (all 0x2B8CBCCC#32))) (subf x low))))))
    (all 0x3F800000#32)

/-- The variable of the expansion. -/
def depthV (s : FVec F S2048x128 .f32) : FVec F S2048x128 .f32 :=
  subf (all 0x00000000#32) (log (mulf (subf (all 0x3F800000#32) s) (addf (all 0x3F800000#32) s)))

/-- A polynomial in `v` by its coefficients, highest first. -/
def polyV (v : FVec F S2048x128 .f32) (first : BitVec 32) (rest : List (BitVec 32)) : FVec F S2048x128 .f32 :=
  rest.foldl (fun a c => addf (all c) (mulf a v)) (all first)

end Vectors

/-- The coefficients of the expansion in the middle, after the first. -/
def coreCoeffs : List (BitVec 32) :=
  [0x34B84B36#32, 0xB66C7357#32, 0xB6935AC1#32, 0x396532DB#32, 0xBAA45408#32, 0xBB88E4EF#32, 0x3E7C8F63#32, 0x3FC02E2F#32]

/-- The coefficients of the expansion in the tails, after the first. -/
def tailCoeffs : List (BitVec 32) :=
  [0x38D3B56B#32, 0x3AB0DC72#32, 0xBB70BDE7#32, 0x3BBC127B#32, 0xBBF9C5D7#32, 0x3C1AA57E#32, 0x3F8036DB#32, 0x40354F7E#32]

section Vectors
variable {F : FTy → Type} [FloatOps F] [Named F]

/-- The inverse normal distribution function of a level scaled to the interval from -1 to 1. -/
def probitV (s : FVec F S2048x128 .f32) : FVec F S2048x128 .f32 :=
  mulf (mulf (select (cmpf .olt (depthV s) (all 0x40A00000#32))
      (polyV (subf (depthV s) (all 0x40200000#32)) 0x32F16588#32 coreCoeffs)
      (polyV (subf (sqrt (maximumf (depthV s) (all 0x40A00000#32))) (all 0x40400000#32)) 0xB951F09B#32 tailCoeffs)) s)
    (all 0x3FB504F3#32)

variable (c : Dev nD) (a1 : Memref sig .tc .vmem S1x2048x128 .f32) (h1 : a1.IsWhole) (x0 : Vec F S1x2048x128 .f32)

theorem whole_eq : sl.r_50 c a1 h1 x0 = wholeV (sl.r_5 c a1 h1 x0) (sl.r_47 c a1 h1 x0) := by sl_kernel_rfl

theorem signed_eq : sl.v2013 c a1 h1 x0 = signedV (sl.v1 c a1 h1 x0) (sl.r_50 c a1 h1 x0)
    (lowV (sl.r c a1 h1 x0) (sl.r_50 c a1 h1 x0) (sl.r_47 c a1 h1 x0) (sl.r_6 c a1 h1 x0) (sl.r_48 c a1 h1 x0))
    (highV (sl.r c a1 h1 x0) (sl.r_50 c a1 h1 x0) (sl.r_49 c a1 h1 x0)) := by sl_kernel_rfl

/-- The stored block. -/
theorem stored_eq : k0_pay1 (sl.v2013 c a1 h1 x0) (sl.v2023 c a1 h1 x0) (sl.v2050 c a1 h1 x0) (sl.v2055 c a1 h1 x0) (sl.r_51 c a1 h1 x0) k0_pay355
    = shapeCast S1x2048x128 (probitV (sl.v2013 c a1 h1 x0)) shapeCasts_S2048x128_S1x2048x128 := by sl_kernel_rfl

/-- What the kernel computes of one block. -/
def lookup (x : FVec F S2048x128 .f32) : FVec F S2048x128 .f32 :=
  let q := table (sorted x)
  let b := coarseCount q x 7
  let f := fineCount q x b 8
  probitV (signedV x (wholeV b f) (lowV q (wholeV b f) f (coarseMax q x 7) (fineLast q x b 8)) (highV q (wholeV b f) (fineNext q x b 8)))

/-- The stored block is the lookup of the loaded one. -/
theorem stored_lookup : k0_pay1 (sl.v2013 c a1 h1 x0) (sl.v2023 c a1 h1 x0) (sl.v2050 c a1 h1 x0) (sl.v2055 c a1 h1 x0) (sl.r_51 c a1 h1 x0) k0_pay355
    = shapeCast S1x2048x128 (lookup (sl.v1 c a1 h1 x0)) shapeCasts_S2048x128_S1x2048x128 := by
  rw [stored_eq, signed_eq, whole_eq, fineCount_eq, fineLast_eq, fineNext_eq, coarseCount_eq, coarseMax_eq, table_eq, sorted_eq]
  rfl

/-- The zero offsets. -/
theorem zero_offsets : (![0, 0, 0] : Fin 3 → Nat) = fun _ => 0 := by funext i; fin_cases i <;> rfl

/-- The block the kernel writes, by the block it reads. -/
theorem block_eq (i : grid0.Coords) (arg1 : Memref sig .tc .vmem S1x2048x128 .f32) (harg1 : arg1.IsWhole)
    (arg2 : Memref sig .tc .vmem S1x2048x128 .f32) (harg2 : arg2.IsWhole) (arg3 : Memref sig .tc .vmem S8x128 .f32) (harg3 : arg3.IsWhole) :
    Cert.KernelIdeal.Gen.out0_A_1 c i arg1 harg1 arg2 harg2 arg3 harg3 x0
      = shapeCast S1x2048x128 (lookup (shapeCast S2048x128 x0 shapeCasts_S1x2048x128_S2048x128)) shapeCasts_S2048x128_S1x2048x128 := by
  unfold out0_A_1
  rw [View.read_writes_eq_canon _ _ _ (cover0_A_1 c i arg1 harg1 arg2 harg2 arg3 harg3 x0)]
  unfold kernelRun0_A
  dsimp only
  rw [View.canon_unit_zero zero_offsets, stored_lookup]
  unfold sl.v1
  simp only [View.readAt_eq_ld, harg1.read_unread, View.ld_unit_zero (S := S1x2048x128) zero_offsets]

end Vectors

end Cert.KernelIdeal.Body
-- ==== Proof.Consts.lean ====
module

public import Idealize.ShloMosaic.PureOps.Ideal
public import Mathlib.Tactic.NormNum

@[expose] public section

noncomputable section

/-! # The numbers that the programs' float constants denote -/

namespace Cert.Scalar

open Idealize.ShloMosaic

/-- The number a 32-bit float pattern denotes. -/
def K (b : BitVec 32) : EReal := Ideal.ofBits .f32 b

theorem K_zero : K 0x00000000#32 = ((0 : ℝ) : EReal) := by simp [K, Ideal.ofBits, Ideal.ieee]
theorem K_one : K 0x3F800000#32 = ((1 : ℝ) : EReal) := by simp [K, Ideal.ofBits, Ideal.ieee, -EReal.coe_mul]; norm_num
theorem K_two : K 0x40000000#32 = ((2 : ℝ) : EReal) := by simp [K, Ideal.ofBits, Ideal.ieee, -EReal.coe_mul]; norm_num
theorem K_eight : K 0x41000000#32 = ((8 : ℝ) : EReal) := by simp [K, Ideal.ofBits, Ideal.ieee, -EReal.coe_mul]; norm_num
theorem K_half : K 0x3F000000#32 = ((1 / 2 : ℝ) : EReal) := by simp [K, Ideal.ofBits, Ideal.ieee, -EReal.coe_mul]; norm_num
theorem K_63 : K 0x427C0000#32 = ((63 : ℝ) : EReal) := by simp [K, Ideal.ofBits, Ideal.ieee, -EReal.coe_mul]; norm_num
theorem K_63_5 : K 0x427E0000#32 = ((127 / 2 : ℝ) : EReal) := by simp [K, Ideal.ofBits, Ideal.ieee, -EReal.coe_mul]; norm_num
theorem K_64th : K 0x3C800000#32 = ((1 / 64 : ℝ) : EReal) := by simp [K, Ideal.ofBits, Ideal.ieee, -EReal.coe_mul]; norm_num
theorem K_128th : K 0x3C000000#32 = ((1 / 128 : ℝ) : EReal) := by simp [K, Ideal.ofBits, Ideal.ieee, -EReal.coe_mul]; norm_num
theorem K_127_128 : K 0x3F7E0000#32 = ((127 / 128 : ℝ) : EReal) := by simp [K, Ideal.ofBits, Ideal.ieee, -EReal.coe_mul]; norm_num
theorem K_2047 : K 0x44FFE000#32 = ((2047 : ℝ) : EReal) := by simp [K, Ideal.ofBits, Ideal.ieee, -EReal.coe_mul]; norm_num
theorem K_2048 : K 0x45000000#32 = ((2048 : ℝ) : EReal) := by simp [K, Ideal.ofBits, Ideal.ieee, -EReal.coe_mul]; norm_num
theorem K_five : K 0x40A00000#32 = ((5 : ℝ) : EReal) := by simp [K, Ideal.ofBits, Ideal.ieee, -EReal.coe_mul]; norm_num
/-- The lower clip of the interpolation is below the lower clip of the probability. -/
theorem K_clips : K 0x322BCC77#32 ≤ K 0x358637BD#32 := by
  simp [K, Ideal.ofBits, Ideal.ieee, -EReal.coe_mul]; norm_num
/-- The lower clip is a positive number below one. -/
theorem K_low : ∃ e : ℝ, K 0x358637BD#32 = (e : EReal) ∧ 0 < e ∧ e < 1 / 2 :=
  ⟨_, by simp [K, Ideal.ofBits, Ideal.ieee, -EReal.coe_mul]; rfl, by norm_num, by norm_num⟩
/-- The upper clip is a number between one half and one. -/
theorem K_high : ∃ e : ℝ, K 0x3F7FFFEF#32 = (e : EReal) ∧ 1 / 2 < e ∧ e < 1 :=
  ⟨_, by simp [K, Ideal.ofBits, Ideal.ieee, -EReal.coe_mul]; rfl, by norm_num, by norm_num⟩

end Cert.Scalar
-- ==== Proof.Entry.lean ====
module

public import proofs.«01_k».proof.Proof.Finish
public import proofs.«01_k».proof.Proof.Consts

@[expose] public section

set_option maxRecDepth 16384

noncomputable section

/-! # One entry of the result -/

namespace Cert.Scalar

open Idealize.ShloMosaic

/-- The clipped level interpolated at `x` between the neighbours `low` and `high`, scaled to the interval from -1 to 1. -/
def signed (lev x low high : EReal) : EReal :=
  K 0x40000000#32 * min (K 0x3F7FFFEF#32) (max (K 0x358637BD#32)
    (lev + Ideal.div (K 0x3C800000#32) (max (high - low) (K 0x2B8CBCCC#32)) * (x - low))) - K 0x3F800000#32

/-- The variable of the expansion. -/
def depth (s : EReal) : EReal := K 0x00000000#32 - Ideal.log ((K 0x3F800000#32 - s) * (K 0x3F800000#32 + s))

/-- A polynomial in `v` by its coefficients, highest first. -/
def poly (v : EReal) (first : BitVec 32) (rest : List (BitVec 32)) : EReal :=
  rest.foldl (fun a c => K c + a * v) (K first)

/-- The inverse normal distribution function by its expansion. -/
def probit (s : EReal) : EReal :=
  (if depth s < K 0x40A00000#32 then poly (depth s - K 0x40200000#32) 0x32F16588#32 Cert.KernelIdeal.Body.coreCoeffs
    else poly (Ideal.sqrt (max (depth s) (K 0x40A00000#32)) - K 0x40400000#32) 0xB951F09B#32 Cert.KernelIdeal.Body.tailCoeffs) * s
    * K 0x3FB504F3#32

/-- The upper neighbour's number, when the first `N` quantiles are at most the entry. -/
def upperIx (N : Nat) : Nat := max 1 (min N 63)

/-- The level of quantile `k`. -/
def level (k : Nat) : EReal := (((k : ℝ) + 1 / 2) / 64 : ℝ)

/-- The result at the entry `x` when `Q` are the quantiles and the first `N` of them are at most `x`. -/
def result (Q : Nat → EReal) (x : EReal) (N : Nat) : EReal :=
  probit (signed (level (upperIx N - 1)) x (Q (upperIx N - 1)) (Q (upperIx N)))

end Cert.Scalar

namespace Cert.KernelIdeal.Body

open Cert.KernelIdeal Cert.KernelIdeal.Gen Idealize.ShloMosaic Idealize.ShloMosaic.ValueIdx Cert.Scalar

section At
variable (q : FVec Ideal S64x128 .f32) (x cnt f m last next low high s : FVec Ideal S2048x128 .f32) (b : IVec S2048x128 32)
  (r : Fin 2048) (l : Fin 128)

theorem lowV_at : lowV q cnt f m last (ix2 r l)
    = if ((127 / 2 : ℝ) : EReal) < cnt (ix2 r l) then entry q l 55 else if cnt (ix2 r l) < ((1 / 2 : ℝ) : EReal) then entry q l 0
        else if f (ix2 r l) < ((1 / 2 : ℝ) : EReal) then m (ix2 r l) else last (ix2 r l) := by
  have h : lowV q cnt f m last (ix2 r l)
    = Scalar.select (Ideal.cmp .ogt (cnt (ix2 r l)) (K 0x427E0000#32)) (rowC q 55 (ix2 r l))
      (Scalar.select (Ideal.cmp .olt (cnt (ix2 r l)) (K 0x3F000000#32)) (rowC q 0 (ix2 r l))
        (Scalar.select (Ideal.cmp .olt (f (ix2 r l)) (K 0x3F000000#32)) (m (ix2 r l)) (last (ix2 r l)))) := rfl
  rw [h, choose_gt, choose_lt, choose_lt, rowC_at, rowC_at, K_63_5, K_half]

theorem highV_at : highV q cnt next (ix2 r l)
    = if ((127 / 2 : ℝ) : EReal) < cnt (ix2 r l) then entry q l 63 else if cnt (ix2 r l) < ((1 / 2 : ℝ) : EReal) then entry q l 8
        else next (ix2 r l) := by
  have h : highV q cnt next (ix2 r l)
    = Scalar.select (Ideal.cmp .ogt (cnt (ix2 r l)) (K 0x427E0000#32)) (rowC q 63 (ix2 r l))
      (Scalar.select (Ideal.cmp .olt (cnt (ix2 r l)) (K 0x3F000000#32)) (rowC q 8 (ix2 r l)) (next (ix2 r l))) := rfl
  rw [h, choose_gt, choose_lt, rowC_at, rowC_at, K_63_5, K_half]

theorem wholeV_at : wholeV (F := Ideal) b f (ix2 r l) = (((b (ix2 r l)).toInt : ℝ) : EReal) * ((8 : ℝ) : EReal) + f (ix2 r l) := by
  have h : wholeV (F := Ideal) b f (ix2 r l) = (((b (ix2 r l)).toInt : ℝ) : EReal) * K 0x41000000#32 + f (ix2 r l) := rfl
  rw [h, K_eight]

theorem levelV_at (N : Nat) (h : cnt (ix2 r l) = ((N : ℝ) : EReal)) : levelV cnt (ix2 r l) = level (upperIx N - 1) := by
  have e : levelV cnt (ix2 r l) = (min (K 0x427C0000#32) (max (K 0x3F800000#32) (cnt (ix2 r l))) - K 0x3F000000#32) * K 0x3C800000#32 := rfl
  rw [e, h, K_63, K_one, K_half, K_64th, ← EReal.coe_strictMono.monotone.map_max, ← EReal.coe_strictMono.monotone.map_min, ← EReal.coe_sub, ← EReal.coe_mul]
  unfold level
  congr 1
  have h1 : (min 63 (max 1 (N : ℝ))) = ((upperIx N : Nat) : ℝ) := by
    unfold upperIx
    push_cast
    rcases Nat.lt_or_ge N 64 with h | h
    · have : (N : ℝ) ≤ 63 := by exact_mod_cast Nat.le_of_lt_succ h
      rw [min_eq_left this, min_eq_right (max_le (by norm_num) this)]
    · have : (63 : ℝ) ≤ N := by exact_mod_cast (show 63 ≤ N by omega)
      rw [min_eq_right this, max_eq_right (by linarith), max_eq_right (by norm_num), min_eq_left this]
  have h2 : ((upperIx N - 1 : Nat) : ℝ) = (upperIx N : ℝ) - 1 := by
    rw [Nat.cast_sub (by unfold upperIx; omega), Nat.cast_one]
  rw [h1, h2]
  ring

theorem signedV_at : signedV x cnt low high (ix2 r l)
    = signed (levelV cnt (ix2 r l)) (x (ix2 r l)) (low (ix2 r l)) (high (ix2 r l)) := rfl

theorem polyV_at (v : FVec Ideal S2048x128 .f32) (first : BitVec 32) (rest : List (BitVec 32)) :
    polyV v first rest (ix2 r l) = poly (v (ix2 r l)) first rest := by
  have h : ∀ (rest : List (BitVec 32)) (a : FVec Ideal S2048x128 .f32),
      rest.foldl (fun a c => addf (all c) (mulf a v)) a (ix2 r l) = rest.foldl (fun a c => K c + a * v (ix2 r l)) (a (ix2 r l)) := by
    intro rest
    induction rest with
    | nil => intro a; rfl
    | cons c t ih => intro a; exact ih _
  exact h rest _

theorem probitV_at : probitV s (ix2 r l) = probit (s (ix2 r l)) := by
  have h : probitV s (ix2 r l)
    = Scalar.select (Ideal.cmp .olt (depth (s (ix2 r l))) (K 0x40A00000#32))
        (polyV (subf (depthV s) (all 0x40200000#32)) 0x32F16588#32 coreCoeffs (ix2 r l))
        (polyV (subf (sqrt (maximumf (depthV s) (all 0x40A00000#32))) (all 0x40400000#32)) 0xB951F09B#32 tailCoeffs (ix2 r l))
      * s (ix2 r l) * K 0x3FB504F3#32 := rfl
  rw [h, choose_lt, polyV_at, polyV_at]
  rfl

end At

section Found
variable {x : FVec Ideal S2048x128 .f32} {r : Fin 2048} {l : Fin 128} {Q : Nat → EReal} {N : Nat}

theorem coe_lt_half (n : Nat) : ((n : ℝ) : EReal) < ((1 / 2 : ℝ) : EReal) ↔ n = 0 := by
  rw [EReal.coe_lt_coe_iff]
  constructor
  · intro h
    by_contra c
    have : (1 : ℝ) ≤ n := by exact_mod_cast Nat.one_le_iff_ne_zero.mpr c
    linarith
  · rintro rfl; norm_num

theorem half_lt_coe (n : Nat) : ((127 / 2 : ℝ) : EReal) < ((n : ℝ) : EReal) ↔ 64 ≤ n := by
  rw [EReal.coe_lt_coe_iff]
  constructor
  · intro h
    by_contra c
    have : (n : ℝ) ≤ 63 := by exact_mod_cast (show n ≤ 63 by omega)
    linarith
  · intro h
    have : (64 : ℝ) ≤ n := by exact_mod_cast h
    linarith

/-- One entry of the kernel's block. -/
theorem lookup_at (h : Placed (table (sorted x)) l Q (x (ix2 r l)) N) :
    lookup x (ix2 r l) = result Q (x (ix2 r l)) N := by
  have hg := group_rest N h.small
  have hl := group_lt N
  have hb : coarseCount (table (sorted x)) x 7 (ix2 r l) = BitVec.ofNat 32 (group N) := h.coarseCount 7 (by omega)
  have hf := h.fineCount hb 8 (by omega)
  have hn := h.fineNext hb 8 (by omega)
  have ha := h.fineLast hb 8 (by omega)
  have hm := h.coarseMax 7 (by omega)
  rw [min_eq_right hg.2] at hf ha
  have hw : wholeV (F := Ideal) (coarseCount (table (sorted x)) x 7) (fineCount (table (sorted x)) x (coarseCount (table (sorted x)) x 7) 8) (ix2 r l)
      = ((N : ℝ) : EReal) := by
    rw [wholeV_at, hb, hf]
    have : (BitVec.ofNat 32 (group N)).toInt = (group N : Int) := by
      rw [BitVec.toInt_ofNat']
      have : group N % 2 ^ 32 = group N := Nat.mod_eq_of_lt (by omega)
      simp only [Int.bmod]
      omega
    rw [this, ← EReal.coe_mul, ← EReal.coe_add]
    congr 1
    have : (8 * group N + rest N : Nat) = (N : ℝ) := by rw [hg.1]
    push_cast at this ⊢
    linarith
  unfold lookup
  rw [probitV_at, signedV_at, levelV_at _ _ _ N hw, lowV_at, highV_at, hw, hf, hn, ha, hm]
  simp only [half_lt_coe, coe_lt_half]
  unfold result
  have e55 : entry (table (sorted x)) l 55 = Q 62 := h.table 6 7 (by omega) (by omega)
  have e63 : entry (table (sorted x)) l 63 = Q 63 := h.table 7 7 (by omega) (by omega)
  have e0 : entry (table (sorted x)) l 0 = Q 0 := h.table 0 0 (by omega) (by omega)
  have e8 : entry (table (sorted x)) l 8 = Q 1 := h.table 1 0 (by omega) (by omega)
  have hs := h.small
  rw [e55, e63, e0, e8]
  congr 2
  · by_cases c : 64 ≤ N
    · rw [if_pos c, show upperIx N - 1 = 62 by unfold upperIx; omega]
    · rw [if_neg c]
      by_cases d : N = 0
      · rw [if_pos d, show upperIx N - 1 = 0 by unfold upperIx; omega]
      · rw [if_neg d]
        by_cases e : rest N = 0
        · rw [if_pos e, if_neg (by unfold group at hg; omega)]
          congr 1
          unfold upperIx group at *
          omega
        · rw [if_neg e, if_neg e]
          congr 1
          unfold upperIx
          omega
  · by_cases c : 64 ≤ N
    · rw [if_pos c, show upperIx N = 63 by unfold upperIx; omega]
    · rw [if_neg c]
      by_cases d : N = 0
      · rw [if_pos d, show upperIx N = 1 by unfold upperIx; omega]
      · rw [if_neg d, if_neg (by unfold group at hg hl; unfold rest group; omega), hg.1]
        congr 1
        unfold upperIx
        omega

end Found

end Cert.KernelIdeal.Body
-- ==== Proof.Sorted.lean ====
module

public import proofs.«01_k».proof.Proof.Steps

@[expose] public section

set_option maxRecDepth 16384

noncomputable section

/-! # The kernel's sort sorts

Level by level the kernel's steps are those of the bitonic sorting network, so every column of the sorted block ascends in
the order of positions, and is the column it came from, rearranged. -/

namespace Cert.KernelIdeal.Body

open Cert.KernelIdeal Cert.Sorting Idealize.ShloMosaic Idealize.ShloMosaic.ValueIdx Idealize.ShloMosaic.SortNet

/-- A network put together from several acts as they do, one after the other. -/
theorem apply_flatMap {n : Nat} (L : List Nat) (f : Nat → Network n) (x : Fin n → EReal) :
    Network.apply (L.flatMap f) x = L.foldl (fun y s => Network.apply (f s) y) x := by
  induction L generalizing x with
  | nil => rfl
  | cons a L ih => rw [List.flatMap_cons, Network.apply_append, ih]; rfl

/-- A level of the network is its stages at falling distances, all in the level's direction. -/
theorem apply_levelNet (l : Nat) (x : Fin (2 ^ 11) → EReal) :
    Network.apply (levelNet 11 false l) x
      = (List.range (l + 1)).reverse.foldl (fun y s => Network.apply (stage 11 s (down (l + 1))) y) x :=
  apply_flatMap _ _ x

/-- `pairG_col` at a mask bit given by its value. -/
theorem pairG_at {e k : Nat} {he : e < 7} (lk : Nat) (h : k = 2 ^ lk) (hl : e + 2 ≤ lk ∧ lk ≤ 7)
    (v : FVec Ideal S2048x128 .f32) (l : Fin 128) :
    col (pairG e he k v) l
      = Network.apply (stage 11 e (down lk)) (Network.apply (stage 11 (e + 1) (down lk)) (col v l)) := by
  subst h; exact pairG_col he hl.1 hl.2 v l

/-- `pairR_col` at a mask bit given by its value. -/
theorem pairR_at {e k : Nat} {he : e < 7} (t : Nat) (h : k = 2 ^ t) (ht : t ≤ 3)
    (v : FVec Ideal S2048x128 .f32) (l : Fin 128) :
    col (pairR e he k v) l
      = Network.apply (stage 11 e (down (8 + t))) (Network.apply (stage 11 (e + 1) (down (8 + t))) (col v l)) := by
  subst h; exact pairR_col he ht v l

/-- `singleG_col` at a mask bit given by its value. -/
theorem singleG_at {k : Nat} (lk : Nat) (h : k = 2 ^ lk) (hl : 1 ≤ lk ∧ lk ≤ 7) (v : FVec Ideal S2048x128 .f32) (l : Fin 128) :
    col (singleG k v) l = Network.apply (stage 11 0 (down lk)) (col v l) := by
  subst h; exact singleG_col hl.1 hl.2 v l

/-- `eightR_col` at bits given by their values. -/
theorem eightR_at {d k : Nat} (t u : Nat) (hd : d = 2 ^ t) (hk : k = 2 ^ u) (h : t < u ∧ u ≤ 2)
    (v : FVec Ideal S2048x128 .f32) (l : Fin 128) :
    col (eightR d k v) l = Network.apply (stage 11 (8 + t) (down (8 + u))) (col v l) := by
  subst hd hk; exact eightR_col h.1 h.2 v l

/-- `eightUp_col` at a distance given by its value. -/
theorem eightUp_at {d : Nat} (t : Nat) (hd : d = 2 ^ t) (h : t ≤ 2) (v : FVec Ideal S2048x128 .f32) (l : Fin 128) :
    col (eightUp d v) l = Network.apply (stage 11 (8 + t) (down 11)) (col v l) := by
  subst hd; exact eightUp_col h v l

/-- Level 1 of the kernel is level 1 of the network. -/
theorem level1_col (v : FVec Ideal S2048x128 .f32) (l : Fin 128) :
    col (level1 v) l = Network.apply (levelNet 11 false 0) (col v l) := by
  rw [apply_levelNet]; unfold level1
  rw [singleG_at (k := 2) 1 rfl (by decide)]
  rfl

/-- Level 2 of the kernel is level 2 of the network. -/
theorem level2_col (v : FVec Ideal S2048x128 .f32) (l : Fin 128) :
    col (level2 v) l = Network.apply (levelNet 11 false 1) (col v l) := by
  rw [apply_levelNet]; unfold level2
  rw [pairG_at (k := 4) 2 rfl (by decide)]
  rfl

/-- Level 3 of the kernel is level 3 of the network. -/
theorem level3_col (v : FVec Ideal S2048x128 .f32) (l : Fin 128) :
    col (level3 v) l = Network.apply (levelNet 11 false 2) (col v l) := by
  rw [apply_levelNet]; unfold level3
  rw [singleG_at (k := 8) 3 rfl (by decide), pairG_at (k := 8) 3 rfl (by decide)]
  rfl

/-- Level 4 of the kernel is level 4 of the network. -/
theorem level4_col (v : FVec Ideal S2048x128 .f32) (l : Fin 128) :
    col (level4 v) l = Network.apply (levelNet 11 false 3) (col v l) := by
  rw [apply_levelNet]; unfold level4
  rw [pairG_at (k := 16) 4 rfl (by decide), pairG_at (k := 16) 4 rfl (by decide)]
  rfl

/-- Level 5 of the kernel is level 5 of the network. -/
theorem level5_col (v : FVec Ideal S2048x128 .f32) (l : Fin 128) :
    col (level5 v) l = Network.apply (levelNet 11 false 4) (col v l) := by
  rw [apply_levelNet]; unfold level5
  rw [singleG_at (k := 32) 5 rfl (by decide), pairG_at (k := 32) 5 rfl (by decide), pairG_at (k := 32) 5 rfl (by decide)]
  rfl

/-- Level 6 of the kernel is level 6 of the network. -/
theorem level6_col (v : FVec Ideal S2048x128 .f32) (l : Fin 128) :
    col (level6 v) l = Network.apply (levelNet 11 false 5) (col v l) := by
  rw [apply_levelNet]; unfold level6
  rw [pairG_at (k := 64) 6 rfl (by decide), pairG_at (k := 64) 6 rfl (by decide), pairG_at (k := 64) 6 rfl (by decide)]
  rfl

/-- Level 7 of the kernel is level 7 of the network. -/
theorem level7_col (v : FVec Ideal S2048x128 .f32) (l : Fin 128) :
    col (level7 v) l = Network.apply (levelNet 11 false 6) (col v l) := by
  rw [apply_levelNet]; unfold level7
  rw [singleG_at (k := 128) 7 rfl (by decide), pairG_at (k := 128) 7 rfl (by decide), pairG_at (k := 128) 7 rfl (by decide), pairG_at (k := 128) 7 rfl (by decide)]
  rfl

/-- Level 8 of the kernel is level 8 of the network. -/
theorem level8_col (v : FVec Ideal S2048x128 .f32) (l : Fin 128) :
    col (level8 v) l = Network.apply (levelNet 11 false 7) (col v l) := by
  rw [apply_levelNet]; unfold level8
  rw [pairR_at (k := 1) 0 rfl (by decide), pairR_at (k := 1) 0 rfl (by decide), pairR_at (k := 1) 0 rfl (by decide), pairR_at (k := 1) 0 rfl (by decide)]
  rfl

/-- Level 9 of the kernel is level 9 of the network. -/
theorem level9_col (v : FVec Ideal S2048x128 .f32) (l : Fin 128) :
    col (level9 v) l = Network.apply (levelNet 11 false 8) (col v l) := by
  rw [apply_levelNet]; unfold level9
  rw [pairR_at (k := 2) 1 rfl (by decide), pairR_at (k := 2) 1 rfl (by decide), pairR_at (k := 2) 1 rfl (by decide), pairR_at (k := 2) 1 rfl (by decide), eightR_at (d := 1) (k := 2) 0 1 rfl rfl (by decide)]
  rfl

/-- Level 10 of the kernel is level 10 of the network. -/
theorem level10_col (v : FVec Ideal S2048x128 .f32) (l : Fin 128) :
    col (level10 v) l = Network.apply (levelNet 11 false 9) (col v l) := by
  rw [apply_levelNet]; unfold level10
  rw [pairR_at (k := 4) 2 rfl (by decide), pairR_at (k := 4) 2 rfl (by decide), pairR_at (k := 4) 2 rfl (by decide), pairR_at (k := 4) 2 rfl (by decide), eightR_at (d := 1) (k := 4) 0 2 rfl rfl (by decide), eightR_at (d := 2) (k := 4) 1 2 rfl rfl (by decide)]
  rfl

/-- Level 11 of the kernel is level 11 of the network. -/
theorem level11_col (v : FVec Ideal S2048x128 .f32) (l : Fin 128) :
    col (level11 v) l = Network.apply (levelNet 11 false 10) (col v l) := by
  rw [apply_levelNet]; unfold level11
  rw [pairUp_col, pairUp_col, pairUp_col, pairUp_col, eightUp_at (d := 1) 0 rfl (by decide), eightUp_at (d := 2) 1 rfl (by decide), eightUp_at (d := 4) 2 rfl (by decide)]
  rfl

/-- The kernel's sort is the bitonic sorting network, column by column. -/
theorem sorted_col (v : FVec Ideal S2048x128 .f32) (l : Fin 128) :
    col (sorted v) l = Network.apply (sortNet 11 false) (col v l) := by
  unfold sorted
  rw [level11_col, level10_col, level9_col, level8_col, level7_col, level6_col, level5_col, level4_col, level3_col,
    level2_col, level1_col, sortNet_eq_levelsNet]
  simp only [levelsNet_succ, Network.apply_append]
  rfl

/-- A sorted column ascends. -/
theorem sorted_monotone (v : FVec Ideal S2048x128 .f32) (l : Fin 128) : Monotone (col (sorted v) l) := by
  rw [sorted_col]; exact sortNet_apply_monotone 11 _

/-- A sorted column is the column it came from, rearranged. -/
theorem sorted_perm (v : FVec Ideal S2048x128 .f32) (l : Fin 128) :
    ∃ σ : Equiv.Perm (Fin (2 ^ 11)), col (sorted v) l = col v l ∘ σ := by
  rw [sorted_col]; exact Network.exists_perm _ _

end Cert.KernelIdeal.Body
-- ==== Proof.Quantiles.lean ====
module

public import proofs.«01_k».proof.Proof.Entry
public import proofs.«01_k».proof.Proof.Sorted
public import Idealize.ShloMosaic.Lib.SortFacts
public import Mathlib.Data.List.OfFn

@[expose] public section

set_option maxRecDepth 16384

noncomputable section

/-! # The quantiles of a column

A column has one ascending rearrangement. Its quantile at level `k` is the mean of the two entries of the rearrangement around
the level. -/

namespace Cert.Scalar

open Idealize.ShloMosaic

/-- The places of a list of numbers in the order that makes it ascend. -/
def ascending {n : Nat} (c : Fin n → EReal) : Equiv.Perm (Fin n) :=
  Equiv.ofBijective (sortedFrom fun a b => decide (c a < c b)) ⟨sortedFrom_injective _, sortedFrom_surjective _⟩

theorem ascending_apply {n : Nat} (c : Fin n → EReal) (p : Fin n) :
    ascending c p = sortedFrom (fun a b => decide (c a < c b)) p := rfl

/-- That order makes the list ascend. -/
theorem ascending_mono {n : Nat} (c : Fin n → EReal) : Monotone (c ∘ ascending c) := by
  intro i j hij
  rcases Nat.lt_or_ge i.val j.val with h | h
  · have e := sortedFrom_noInversion (fun a b => decide (c a < c b)) (fun a b => decide (c a < c b))
      (fun a b h => by simp only [decide_eq_true_eq, decide_eq_false_iff_not] at h ⊢; exact not_lt.mpr h.le)
      (fun _ _ h => h)
      (fun a b d h h' => by simp only [decide_eq_false_iff_not, not_lt] at h h' ⊢; exact h'.trans h) i j h
    simp only [decide_eq_false_iff_not, not_lt] at e
    exact e
  · rw [Fin.ext (Nat.le_antisymm hij h)]

/-- Any two ascending rearrangements of a list of numbers agree. -/
theorem eq_ascending {n : Nat} (c : Fin n → EReal) (σ : Equiv.Perm (Fin n)) (h : Monotone (c ∘ σ)) (p : Fin n) :
    c (σ p) = c (ascending c p) := by
  have hl : List.ofFn (c ∘ σ) = List.ofFn (c ∘ ascending c) :=
    List.Perm.eq_of_pairwise (le := fun a b => a ≤ b) (fun a b _ _ h1 h2 => le_antisymm h1 h2)
      (List.pairwise_ofFn.mpr fun _ _ hij => h hij.le) (List.pairwise_ofFn.mpr fun _ _ hij => ascending_mono c hij.le)
      ((Equiv.Perm.ofFn_comp_perm σ c).trans (Equiv.Perm.ofFn_comp_perm (ascending c) c).symm)
  exact congrFun (List.ofFn_injective hl) p

/-- The ascending rearrangement of a column, read at a number. -/
def ascend (c : Fin 2048 → EReal) (p : Nat) : EReal := c (ascending c ⟨p % 2048, Nat.mod_lt p (by decide)⟩)

/-- The rearrangement at a place of the column. -/
theorem ascend_val (c : Fin 2048 → EReal) (p : Fin 2048) : ascend c p.val = c (ascending c p) :=
  congrArg (fun i => c (ascending c i)) (Fin.ext (Nat.mod_eq_of_lt p.isLt))

/-- Any ascending rearrangement of a column is the one above. -/
theorem eq_ascend (c : Fin 2048 → EReal) (σ : Equiv.Perm (Fin 2048)) (h : Monotone (c ∘ σ)) (p : Fin 2048) :
    c (σ p) = ascend c p.val :=
  (eq_ascending c σ h p).trans (ascend_val c p).symm

/-- The rearrangement ascends. -/
theorem ascend_mono (c : Fin 2048 → EReal) {p p' : Nat} (h : p ≤ p') (h' : p' < 2048) : ascend c p ≤ ascend c p' := by
  have m := ascending_mono c
  unfold ascend
  refine m ?_
  show p % 2048 ≤ p' % 2048
  rw [Nat.mod_eq_of_lt h', Nat.mod_eq_of_lt (by omega)]
  exact h

/-- The quantile of a column at level `k`. -/
def quantile (c : Fin 2048 → EReal) (k : Nat) : EReal :=
  ((1 / 2 : ℝ) : EReal) * (ascend c (32 * k + 15) + ascend c (32 * k + 16))

/-- Quantiles grow with the level. -/
theorem quantile_mono (c : Fin 2048 → EReal) {k k' : Nat} (h : k ≤ k') (h' : k' < 64) : quantile c k ≤ quantile c k' := by
  unfold quantile
  refine mul_le_mul_of_nonneg_left ?_ (by exact_mod_cast (by norm_num : (0 : ℝ) ≤ 1 / 2))
  exact add_le_add (ascend_mono c (by omega) (by omega)) (ascend_mono c (by omega) (by omega))

open Classical in
/-- How many of the quantiles of a column are at most `x`. -/
def below (c : Fin 2048 → EReal) (x : EReal) : Nat := (Finset.univ.filter fun k : Fin 64 => quantile c k.val ≤ x).card

theorem below_le (c : Fin 2048 → EReal) (x : EReal) : below c x ≤ 64 := by
  classical
  exact (Finset.card_le_univ _).trans (by simp)

/-- The quantiles at most `x` are the first ones. -/
theorem quantile_le_iff (c : Fin 2048 → EReal) (x : EReal) (k : Nat) (hk : k < 64) : quantile c k ≤ x ↔ k < below c x := by
  classical
  unfold below
  constructor
  · intro h
    have hs : Finset.univ.filter (fun i : Fin 64 => i.val < k + 1) ⊆ Finset.univ.filter fun i : Fin 64 => quantile c i.val ≤ x := by
      intro i hi
      rw [Finset.mem_filter] at hi ⊢
      exact ⟨hi.1, (quantile_mono c (by omega) hk).trans h⟩
    have hc := Finset.card_le_card hs
    have e : (Finset.univ.filter fun i : Fin 64 => i.val < k + 1).card = k + 1 := by
      rw [Fin.card_filter_val_lt]; omega
    omega
  · intro h
    by_contra hn
    have hs : (Finset.univ.filter fun i : Fin 64 => quantile c i.val ≤ x) ⊆ Finset.univ.filter (fun i : Fin 64 => i.val < k) := by
      intro i hi
      rw [Finset.mem_filter] at hi ⊢
      refine ⟨hi.1, ?_⟩
      by_contra hki
      exact hn ((quantile_mono c (by omega) i.isLt).trans hi.2)
    have hc := Finset.card_le_card hs
    have e : (Finset.univ.filter fun i : Fin 64 => i.val < k).card = k := by
      rw [Fin.card_filter_val_lt]; omega
    omega

end Cert.Scalar

namespace Cert.KernelIdeal.Body

open Cert.KernelIdeal Cert.KernelIdeal.Gen Idealize.ShloMosaic Idealize.ShloMosaic.ValueIdx Cert.Scalar

/-- A column of a block, by rows. -/
def column (x : FVec Ideal S2048x128 .f32) (l : Fin 128) : Fin 2048 → EReal := fun r => x (ix2 r l)

/-- Positions are a renumbering of the rows. -/
theorem row_bijective : Function.Bijective row := by
  have hi : Function.Injective row := by
    intro a b h
    have ha := a.isLt
    have hb := b.isLt
    have hv := congrArg Fin.val h
    simp only [row] at hv
    apply Fin.ext
    norm_num at ha hb
    omega
  refine (Fintype.bijective_iff_injective_and_card row).mpr ⟨hi, by simp⟩

/-- The sorted block holds the ascending rearrangement of each column, by positions. -/
theorem sorted_ascend (x : FVec Ideal S2048x128 .f32) (l : Fin 128) (p : Nat) (hp : p < 2 ^ 11) :
    col (sorted x) l ⟨p, hp⟩ = ascend (column x l) p := by
  obtain ⟨σ, hσ⟩ := sorted_perm x l
  have hm := sorted_monotone x l
  have h2 : (2 ^ 11 : Nat) = 2048 := by norm_num
  let e : Fin 2048 ≃ Fin (2 ^ 11) := finCongr h2.symm
  let τ : Equiv.Perm (Fin 2048) := (e.trans σ).trans (Equiv.ofBijective row row_bijective)
  have hτ : ∀ i : Fin 2048, column x l (τ i) = col (sorted x) l (e i) := by
    intro i; rw [hσ]; rfl
  have hmono : Monotone (column x l ∘ τ) := by
    intro i j hij
    show column x l (τ i) ≤ column x l (τ j)
    rw [hτ, hτ]
    exact hm hij
  have hq := eq_ascend (column x l) τ hmono ⟨p, by omega⟩
  rw [hτ] at hq
  exact hq

/-- A row of the table is the mean of two sorted rows. -/
theorem table_at (s : FVec Ideal S2048x128 .f32) (l : Fin 128) (i j : Nat) (hi : i < 8) (hj : j < 8) :
    entry (table s) l (i * 8 + j)
      = ((1 / 2 : ℝ) : EReal) * (col s l ⟨32 * (8 * j + i) + 15, by norm_num; omega⟩ + col s l ⟨32 * (8 * j + i) + 16, by norm_num; omega⟩) := by
  unfold entry table
  rw [shapeCast_apply _ _ _ (ix3 (⟨i, hi⟩ : Fin 8) (⟨j, hj⟩ : Fin 8) l) (by
    rw [place2, Shape.rowMajor_val_three]; show (i * 8 + j) * 128 + l.val = (i * 8 + j) % 64 * 128 + l.val; omega)]
  have cut : ∀ (o : Nat) (ho : o < 32) (hs : S8x32x8x128.Slices ![0, o, 0, 0] S8x1x8x128),
      shapeCast S8x8x128 (extractStridedSlice S8x1x8x128 ![0, o, 0, 0] (shapeCast S8x32x8x128 s tableFacts.cast) hs) tableFacts.drop
        (ix3 (⟨i, hi⟩ : Fin 8) (⟨j, hj⟩ : Fin 8) l) = col s l ⟨32 * (8 * j + i) + o, by norm_num; omega⟩ := by
    intro o ho hs
    rw [shapeCast_apply _ _ _ (ix4 (⟨i, hi⟩ : Fin 8) (0 : Fin 1) (⟨j, hj⟩ : Fin 8) l) (by
      rw [place4, Shape.rowMajor_val_three]; show ((i * 1 + 0) * 8 + j) * 128 + l.val = (i * 8 + j) * 128 + l.val; omega)]
    rw [extractStridedSlice_apply _ _ _ _ (ix4 (⟨i, hi⟩ : Fin 8) (⟨o, ho⟩ : Fin 32) (⟨j, hj⟩ : Fin 8) l)
      (by intro a; fin_cases a <;> simp [ix4])]
    refine (shapeCast_apply _ _ _ (ix2 (row ⟨32 * (8 * j + i) + o, by norm_num; omega⟩) l) ?_)
    rw [place4, place2]
    show ((32 * (8 * j + i) + o) % 256 * 8 + (32 * (8 * j + i) + o) / 256) * 128 + l.val = ((i * 32 + o) * 8 + j) * 128 + l.val
    have h1 : (32 * (8 * j + i) + o) % 256 = 32 * i + o := by omega
    have h2 : (32 * (8 * j + i) + o) / 256 = j := by omega
    rw [h1, h2]
    ring
  have h : ∀ a b : FVec Ideal S8x8x128 .f32, mulf (broadcast S8x8x128 (Scalar.ofBits .f32 0x3F000000#32)) (addf a b)
      (ix3 (⟨i, hi⟩ : Fin 8) (⟨j, hj⟩ : Fin 8) l) = K 0x3F000000#32 * (a (ix3 ⟨i, hi⟩ ⟨j, hj⟩ l) + b (ix3 ⟨i, hi⟩ ⟨j, hj⟩ l)) := fun _ _ => rfl
  rw [h, cut 15 (by omega), cut 16 (by omega), K_half]

/-- Where an entry falls among the quantiles of its column. -/
theorem placed (x : FVec Ideal S2048x128 .f32) (l : Fin 128) (y : EReal) :
    Placed (table (sorted x)) l (quantile (column x l)) y (below (column x l) y) where
  table i j hi hj := by
    rw [table_at _ _ _ _ hi hj, sorted_ascend, sorted_ascend]
    rfl
  grows k k' h h' := quantile_mono _ h h'
  small := below_le _ _
  place k hk := quantile_le_iff _ _ k hk

/-- One entry of the kernel's block, by the column it stands in. -/
theorem lookup_entry (x : FVec Ideal S2048x128 .f32) (r : Fin 2048) (l : Fin 128) :
    lookup x (ix2 r l) = result (quantile (column x l)) (x (ix2 r l)) (below (column x l) (x (ix2 r l))) :=
  lookup_at (placed x l _)

end Cert.KernelIdeal.Body
-- ==== Proof.Array.lean ====
module

public import proofs.«01_k».proof.Proof.Quantiles
public import Idealize.ShloMosaic.Lib.Pipeline.ValueKit.Geometry

@[expose] public section

set_option maxRecDepth 16384

noncomputable section

/-! # The array the kernel leaves -/

namespace Cert.Scalar

open Idealize.ShloMosaic Idealize.ShloMosaic.ValueIdx

/-- The result for an array of 64 batches of 2048 times of 128 channels: every entry is looked up among the quantiles of its
    batch and channel. -/
def target (X : (⟨3, ![64, 2048, 128]⟩ : Shape).Idx → EReal) : (⟨3, ![64, 2048, 128]⟩ : Shape).Idx → EReal := fun i =>
  let c : Fin 2048 → EReal := fun r => X (ix3 (i 0) r (i 2))
  result (quantile c) (X i) (below c (X i))

end Cert.Scalar

namespace Cert.KernelIdeal.Body

open Cert.KernelIdeal Cert.KernelIdeal.Gen Idealize.ShloMosaic Idealize.ShloMosaic.TcCoe Idealize.SL.Sem Cert.Scalar
open Idealize.ShloMosaic.ValueIdx
open Idealize.ShloMosaic.Pipeline (Dat)

variable (m : (ℓ : Loc nD τ sig) → Buf (Elt Ideal) ℓ)

/-- The array the kernel reads. -/
def argument (c : Dev nD) : FVec Ideal S64x2048x128 .f32 := m ((c : Thread nD τ).loc main_arg0)

/-- One block of the kernel's result, by the block it reads. -/
theorem block_at (X : FVec Ideal S1x2048x128 .f32) (b : Fin 1) (r : Fin 2048) (l : Fin 128) :
    shapeCast S1x2048x128 (lookup (shapeCast S2048x128 X shapeCasts_S1x2048x128_S2048x128)) shapeCasts_S2048x128_S1x2048x128 (ix3 b r l)
      = result (quantile fun k => X (ix3 b k l)) (X (ix3 b r l)) (below (fun k => X (ix3 b k l)) (X (ix3 b r l))) := by
  have hb : b = 0 := Fin.eq_zero b
  subst hb
  have hX : ∀ k, shapeCast S2048x128 X shapeCasts_S1x2048x128_S2048x128 (ix2 k l) = X (ix3 (0 : Fin 1) k l) := by
    intro k
    refine shapeCast_apply _ _ _ _ ?_
    rw [place2, Shape.rowMajor_val_three]
    show (0 * 2048 + k.val) * 128 + l.val = k.val * 128 + l.val
    omega
  rw [shapeCast_apply _ _ _ (ix2 r l) (by
    rw [place2, Shape.rowMajor_val_three]
    show r.val * 128 + l.val = (0 * 2048 + r.val) * 128 + l.val
    omega)]
  rw [lookup_entry]
  unfold column
  simp only [hX]

/-- The blocks the kernel reads and writes at a point are the same batch. -/
theorem batch_eq : ∀ t : Fin cfg0.N, win0_0.index t = win0_1.index t ∧ win0_1.index t 1 = 0 ∧ win0_1.index t 2 = 0 :=
  (by decide +kernel : ∀ t : Fin grid0.N, win0_0.index t = win0_1.index t ∧ win0_1.index t 1 = 0 ∧ win0_1.index t 2 = 0)

/-- The array the kernel leaves. -/
theorem array_eq (c : Dev nD) : (dats m 0 c).arrAt 1 cfg0.N = target (argument m c) := by
  refine (dats m 0 c).arrAt_eq_of_covers 1 _ (by decide +kernel) fun t hf y => ?_
  blk_simp
  rw [after0_1]
  unfold outsAt0
  rw [block_eq]
  obtain ⟨b, r, l, rfl⟩ : ∃ (b : Fin 1) (r : Fin 2048) (l : Fin 128), y = ix3 b r l := ⟨y 0, y 1, y 2, by funext a; fin_cases a <;> rfl⟩
  refine (block_at _ b r l).trans ?_
  obtain ⟨e0, e1, e2⟩ := batch_eq t
  have hin : ∀ (k : Fin 2048) (I : S64x2048x128.Idx), (I 0).val = win0_1.index t 0 → (I 1).val = k.val → (I 2).val = l.val →
      iblk m c 0 t (ix3 b k l) = argument m c I := by
    intro k I h0 h1 h2
    show V m c main_arg0 ((win0_0.blk t).view.emb (ix3 b k l)) = V m c main_arg0 I
    congr 1
    funext a
    apply Fin.ext
    fin_cases a
    · show ((win0_0.blk t).view.emb (ix3 b k l) 0).val = (I 0).val
      blk_simp [e0]
      exact h0.symm
    · show ((win0_0.blk t).view.emb (ix3 b k l) 1).val = (I 1).val
      blk_simp [e0, e1]
      exact h1.symm
    · show ((win0_0.blk t).view.emb (ix3 b k l) 2).val = (I 2).val
      blk_simp [e0, e2]
      exact h2.symm
  have g0 : ((win0_1.blk t).view.emb (ix3 b r l) 0).val = win0_1.index t 0 := by
    blk_simp
  have g1 : ((win0_1.blk t).view.emb (ix3 b r l) 1).val = r.val := by blk_simp [e1]; rfl
  have g2 : ((win0_1.blk t).view.emb (ix3 b r l) 2).val = l.val := by blk_simp [e2]; rfl
  have hself := hin r ((win0_1.blk t).view.emb (ix3 b r l)) g0 g1 g2
  have hcol : (fun k => iblk m c 0 t (ix3 b k l)) = fun k : Fin 2048 =>
      argument m c (ix3 ((win0_1.blk t).view.emb (ix3 b r l) 0) k ((win0_1.blk t).view.emb (ix3 b r l) 2)) :=
    funext fun k => hin k _ g0 rfl g2
  rw [hself, hcol]
  rfl

end Cert.KernelIdeal.Body
-- ==== Proof.RefLevels.lean ====
module

public import proofs.«01_k».proof.Proof.Quantiles
public import proofs.«01_k».proof.Proof.Gen.ReferenceIdeal.Run
public import Idealize.ShloMosaic.Lib.Pipeline.Value
public import Idealize.ShloMosaic.Lib.DynamicIndex
public import Mathlib.Tactic.Ring

@[expose] public section

set_option maxRecDepth 16384

noncomputable section

/-! # The reference's levels and the places they fall on -/

namespace Cert.ReferenceIdeal.Read

open Cert.ReferenceIdeal Cert.ReferenceIdeal.Gen Cert.ReferenceIdeal.Value
open Idealize.ShloMosaic Idealize.ShloMosaic.TcCoe Idealize.SL.Sem
open Idealize.ShloMosaic.ValueIdx Cert.Scalar

variable (V0 : Valuation τ sig (Elt Ideal))

/-- The 64 levels. -/
def levelsV : FVec Ideal S64 .f32 := res_main_v0 V0
/-- Where they fall in a column of 2048 entries. -/
def positionV : FVec Ideal S64 .f32 := res_main_v6 V0
/-- The places before those positions. -/
def placeV : IVec S64 32 := res_main_v8 V0
/-- The places after those positions. -/
def nextV : IVec S64 32 := res_main_v16 V0
/-- How far beyond the places before them the positions are. -/
def fractionV : FVec Ideal S64 .f32 := res_main_v11 V0

/-- A small number as a word, read signed, is the number. -/
theorem word_toInt {k : Nat} (h : k < 2 ^ 31) : (((BitVec.ofNat 32 k).toInt : ℝ)) = (k : ℝ) := by
  rw [toInt_ofNat_of_lt h, Int.cast_natCast]

/-- The evenly spaced levels are the midpoints of 64 equal parts of the unit interval. -/
theorem levels_at (k : Fin 64) : levelsV V0 (ix1 k) = level k.val := by
  by_cases hk : k.val < 63
  · have h : levelsV V0 (ix1 k)
        = K 0x3C000000#32 * (K 0x3F800000#32 - Ideal.div (((BitVec.ofNat 32 k.val).toInt : ℝ) : EReal) (K 0x427C0000#32))
          + K 0x3F7E0000#32 * Ideal.div (((BitVec.ofNat 32 k.val).toInt : ℝ) : EReal) (K 0x427C0000#32) := by
      unfold levelsV res_main_v0
      refine (concatenate_apply_piece (t := S64) 0 [⟨S63, _⟩, ⟨S1, _⟩] concatenates_S63_S1_S64_d0 _ 0 (by decide : 0 < 2) _ _ rfl rfl 0 rfl
        (ix1 ⟨k.val, hk⟩) (fun b hb => absurd (Fin.eq_zero b) hb) (Nat.zero_add _)).trans ?_
      rfl
    rw [h, word_toInt (by omega), K_63, Ideal.div_coe (by norm_num), K_128th, K_one, K_127_128]
    simp only [← EReal.coe_mul, ← EReal.coe_sub, ← EReal.coe_add]
    unfold level
    congr 1
    ring
  · have h : levelsV V0 (ix1 k) = K 0x3F7E0000#32 := by
      unfold levelsV res_main_v0
      refine (concatenate_apply_piece (t := S64) 0 [⟨S63, _⟩, ⟨S1, _⟩] concatenates_S63_S1_S64_d0 _ 1 (by decide : 1 < 2) _ _ rfl rfl 63 rfl
        (ix1 (0 : Fin 1)) (fun b hb => absurd (Fin.eq_zero b) hb) (by show 63 + 0 = k.val; omega)).trans ?_
      rfl
    have e : k.val = 63 := by omega
    rw [h, K_127_128, e]
    unfold level
    congr 1
    norm_num

/-- Level `k` falls half way between the places `32 k + 15` and `32 k + 16` of an ascending column. -/
theorem position_at (k : Fin 64) : positionV V0 (ix1 k) = ((32 * (k.val : ℝ) + 15 + 1 / 2 : ℝ) : EReal) := by
  have h : positionV V0 (ix1 k)
      = min (K 0x44FFE000#32) (max (K 0x00000000#32) (levelsV V0 (ix1 k) * K 0x45000000#32 - K 0x3F000000#32)) := rfl
  have hk : (k.val : ℝ) ≤ 63 := by exact_mod_cast Nat.le_of_lt_succ k.isLt
  have h0 : (0 : ℝ) ≤ (k.val : ℝ) := Nat.cast_nonneg _
  rw [h, levels_at, K_2047, K_zero, K_2048, K_half]
  unfold level
  rw [← EReal.coe_mul, ← EReal.coe_sub, ← EReal.coe_strictMono.monotone.map_max, ← EReal.coe_strictMono.monotone.map_min]
  congr 1
  rw [max_eq_right (by linarith), min_eq_right (by linarith)]
  ring

/-- The whole part of a position. -/
theorem place_at (k : Fin 64) : placeV V0 (ix1 k) = BitVec.ofNat 32 (32 * k.val + 15) := by
  have h : placeV V0 (ix1 k) = IntOp.minsi 2046#32 (IntOp.maxsi 0#32 (Ideal.fptosi 32 (positionV V0 (ix1 k)))) := rfl
  have hf : ⌊(32 * (k.val : ℝ) + 15 + 1 / 2 : ℝ)⌋ = ((32 * k.val + 15 : Nat) : Int) := by
    rw [Int.floor_eq_iff]
    push_cast
    constructor <;> linarith
  have h0 : (0 : ℝ) ≤ (k.val : ℝ) := Nat.cast_nonneg _
  have e : Ideal.fptosi 32 (positionV V0 (ix1 k)) = BitVec.ofNat 32 (32 * k.val + 15) := by
    rw [position_at]
    unfold Ideal.fptosi
    rw [Ideal.toIntClamped_coe, if_pos (by linarith), hf, min_eq_right (by have := k.isLt; norm_num; omega), max_eq_right (by norm_num; omega)]
    exact BitVec.ofInt_natCast _ _
  rw [h, e]
  clear h hf h0 e
  revert k
  decide

/-- The place after it. -/
theorem next_at (k : Fin 64) : nextV V0 (ix1 k) = BitVec.ofNat 32 (32 * k.val + 16) := by
  have h : nextV V0 (ix1 k) = IntOp.minsi 2047#32 (IntOp.maxsi 0#32 (IntOp.addi (placeV V0 (ix1 k)) 1#32)) := rfl
  rw [h, place_at]
  clear h
  revert k
  decide

/-- The fractional part of a position. -/
theorem fraction_at (k : Fin 64) : fractionV V0 (ix1 k) = ((1 / 2 : ℝ) : EReal) := by
  have h : fractionV V0 (ix1 k) = min (K 0x3F800000#32) (max (K 0x00000000#32)
      (positionV V0 (ix1 k) - (((placeV V0 (ix1 k)).toInt : ℝ) : EReal))) := rfl
  rw [h, position_at, place_at, word_toInt (by omega), K_one, K_zero, ← EReal.coe_sub, ← EReal.coe_strictMono.monotone.map_max, ← EReal.coe_strictMono.monotone.map_min]
  congr 1
  push_cast
  rw [show (32 * (k.val : ℝ) + 15 + 1 / 2 - (32 * (k.val : ℝ) + 15)) = 1 / 2 by ring]
  norm_num

end Cert.ReferenceIdeal.Read
-- ==== Proof.RefReads.lean ====
module

public import proofs.«01_k».proof.Proof.Gen.ReferenceIdeal
public import Idealize.ShloMosaic.Lib.Pipeline.Value
public import Idealize.ShloMosaic.Lib.DynamicIndex
public import Idealize.ShloMosaic.Lib.ReduceAll
public import Idealize.ShloMosaic.Lib.ValueIdxCore
public import Idealize.ShloMosaic.Lib.IndicatorCount
public import Idealize.ShloMosaic.Lib.Pointwise.Reduce
public import Idealize.ShloMosaic.Lib.WordCmp

@[expose] public section

set_option maxRecDepth 16384

noncomputable section

/-! # Indexed reads whose indices are in range -/

namespace Cert.ReferenceIdeal.Read

open Cert.ReferenceIdeal Cert.ReferenceIdeal.Gen
open Idealize.ShloMosaic hiding ix2 ix3
open Idealize.ShloMosaic.ValueIdx

/-- An index that is not negative is not wrapped round. -/
theorem unwrapped {s : Shape} (v e : IVec s 32) (j : s.Idx) {n : Nat} (hn : n < 2 ^ 31) (h : v j = BitVec.ofNat 32 n) :
    select (cmpi .slt v (constantI s 32 0#32)) (addi v e) v j = BitVec.ofNat 32 n := by
  rw [select_slt_zero_of_nonneg _ _ _ _ (by rw [h, toInt_ofNat_of_lt hn]; omega), h]

/-- The test that an index lies between zero and a bound. -/
theorem between {n b : Nat} (hn : n ≤ b) (hb : b < 2 ^ 31) :
    IntOp.andi (IntOp.cmpi .sge (BitVec.ofNat 32 n) 0#32) (IntOp.cmpi .sle (BitVec.ofNat 32 n) (BitVec.ofNat 32 b)) = 1#1 := by
  have h0 : 0 ≤ n := Nat.zero_le n
  rw [WordCmp.cmpi_sge_ofNat (by omega) (by omega), WordCmp.cmpi_sle_ofNat (by omega) (by omega), decide_eq_true h0, decide_eq_true hn]
  rfl

/-- Reading the last axis of the sorted array at the places of an index vector. -/
theorem read_places {α : Type} (x : S64x128x2048.Idx → α) (idx : IVec S64x1 32) (b : Fin 64) (l : Fin 128) (k : Fin 64) (p : Fin 2048)
    (h : idx (ix2 k (0 : Fin 1)) = BitVec.ofNat 32 p.val) :
    Host.gather gather_S64x128x2048_S64x1_S64x128x64_01_2_n_n_2_1_641281 x idx (ix3 b l k) = x (ix3 b l p) := by
  unfold Host.gather
  refine congrArg x (funext fun a => Fin.ext ?_)
  match a with
  | ⟨0, _⟩ =>
    show 0 + 0 + b.val = b.val
    omega
  | ⟨1, _⟩ =>
    show 0 + 0 + l.val = l.val
    omega
  | ⟨2, _⟩ =>
    have hs : (GatherDims.siIdx gather_S64x128x2048_S64x1_S64x128x64_01_2_n_n_2_1_641281 (ix3 b l k) ⟨0, by decide⟩) = ix2 k (0 : Fin 1) := by
      funext c
      match c with
      | ⟨0, _⟩ => rfl
      | ⟨1, _⟩ => rfl
    show min (idx (GatherDims.siIdx gather_S64x128x2048_S64x1_S64x128x64_01_2_n_n_2_1_641281 (ix3 b l k) ⟨0, by decide⟩)).toInt.toNat 2047 + 0 + 0
      = p.val
    rw [hs, h, toInt_ofNat_of_lt (by omega)]
    have := p.isLt
    omega

/-- Reading each row of a table at that row's own indices. -/
theorem read_rows {α : Type} (x : S8192x64.Idx → α) (idx : IVec S8192x2048x1 32) (r : Fin 8192) (j : Fin 2048) (p : Fin 64)
    (h : idx (ix3 r j (0 : Fin 1)) = BitVec.ofNat 32 p.val) :
    Host.gather gather_S8192x64_S8192x2048x1_S8192x2048_n_1_0_0_1_2_11 x idx (ix2 r j) = x (ix2 r p) := by
  unfold Host.gather
  refine congrArg x (funext fun a => Fin.ext ?_)
  match a with
  | ⟨0, _⟩ =>
    show 0 + r.val + 0 = r.val
    omega
  | ⟨1, _⟩ =>
    have hs : (GatherDims.siIdx gather_S8192x64_S8192x2048x1_S8192x2048_n_1_0_0_1_2_11 (ix2 r j) ⟨0, by decide⟩) = ix3 r j (0 : Fin 1) := by
      funext c
      match c with
      | ⟨0, _⟩ => rfl
      | ⟨1, _⟩ => rfl
      | ⟨2, _⟩ => rfl
    show min (idx (GatherDims.siIdx gather_S8192x64_S8192x2048x1_S8192x2048_n_1_0_0_1_2_11 (ix2 r j) ⟨0, by decide⟩)).toInt.toNat 63 + 0 + 0
      = p.val
    rw [hs, h, toInt_ofNat_of_lt (by omega)]
    have := p.isLt
    omega

/-- How many bits of a row of bits are set. -/
theorem count_at (c : S8192x2048x64.Idx → BitVec 1) (r : Fin 8192) (j : Fin 2048) :
    Host.reduce IntOp.addi (extui 32 c natLt_1_32) (constantI S_ 32 0#32) reducesTo_S8192x2048x64_S8192x2048_d2 h_S_ (ix2 r j)
      = BitVec.ofNat 32 (Finset.univ.filter fun k : Fin 64 => c (ix3 r j k) = 1#1).card := by
  rw [Host.reduce_eq_fold]
  refine (Shape.ReducesTo.fold_fiber_r3_a2 reducesTo_S8192x2048x64_S8192x2048_d2 (ix2 r j) IntOp.addi _ _).trans ?_
  exact IndicatorCount.fold_addi_setWidth_eq_card (fun k : Fin 64 => c (ix3 r j k)) Finset.univ

end Cert.ReferenceIdeal.Read
-- ==== Proof.RefQuantiles.lean ====
module

public import proofs.«01_k».proof.Proof.RefLevels
public import proofs.«01_k».proof.Proof.RefReads

@[expose] public section

set_option maxRecDepth 16384

noncomputable section

/-! # The reference's quantiles -/

namespace Cert.ReferenceIdeal.Read

open Cert.ReferenceIdeal Cert.ReferenceIdeal.Gen Cert.ReferenceIdeal.Value
open Idealize.ShloMosaic hiding ix1 ix2 ix3
open Idealize.ShloMosaic.TcCoe Idealize.SL.Sem
open Idealize.ShloMosaic.ValueIdx Cert.Scalar

variable (V0 : Valuation τ sig (Elt Ideal))

/-- The array the reference reads. -/
def argV : FVec Ideal S64x2048x128 .f32 := V0 (Proc.devRef .tc main_arg0)
/-- The entries of batch `b` and channel `l`. -/
def columnV (b : Fin 64) (l : Fin 128) : Fin 2048 → EReal := fun r => argV V0 (ix3 b r l)
/-- The array with every column laid along a row. -/
def rowsV : FVec Ideal S8192x2048 .f32 := res_main_v28 V0
/-- The array with every column sorted and laid along the last axis. -/
def ascendV : FVec Ideal S64x128x2048 .f32 := res_main_v12 V0
/-- The quantiles of every column. -/
def quantileV : FVec Ideal S8192x64 .f32 := res_main_v29 V0
/-- The levels, repeated for every column. -/
def levelRowsV : FVec Ideal S8192x64 .f32 := res_main_v30 V0
/-- The row that holds the column of batch `b` and channel `l`. -/
def rowOf (b : Fin 64) (l : Fin 128) : Fin 8192 := ⟨b.val * 128 + l.val, by omega⟩

/-- A row of the laid-out array is a column of the argument. -/
theorem rows_at (b : Fin 64) (l : Fin 128) (r : Fin 2048) : rowsV V0 (ix2 (rowOf b l) r) = columnV V0 b l r := by
  have e : rowsV V0 = shapeCast S8192x2048 (transpose S64x128x2048 [0, 2, 1] (argV V0) transposes_S64x2048x128_S64x128x2048_0_2_1)
      shapeCasts_S64x128x2048_S8192x2048 := rfl
  rw [e]
  refine (shapeCast_apply _ _ _ (ix3 b l r) ?_).trans ?_
  · rw [Shape.rowMajor_val_two, Shape.rowMajor_val_three]
    rfl
  · refine transpose_apply _ _ _ _ (ix3 b r l) fun a => ?_
    match a with
    | ⟨0, _⟩ => rfl
    | ⟨1, _⟩ => rfl
    | ⟨2, _⟩ => rfl

/-- The order the reference sorts by is the order of the numbers. -/
theorem order_eq (x y : EReal) : (comparator_f32_d1 (F := Ideal) x y == 1#1) = decide (x < y) := by
  have canon : ∀ z : EReal, Scalar.select (Ideal.cmp .une z z) (K 0x7FC00000#32) (Scalar.select (Ideal.cmp .oeq z (K 0x00000000#32)) (K 0x00000000#32) z) = z := by
    intro z
    have h1 : Ideal.cmp .une z z = 0#1 := by
      show BitVec.ofBool (decide (z ≠ z)) = 0#1
      rw [decide_eq_false (fun h => h rfl)]
      rfl
    have h2 : Ideal.cmp .oeq z (K 0x00000000#32) = BitVec.ofBool (decide (z = K 0x00000000#32)) := rfl
    rw [h1, h2]
    show Scalar.select (BitVec.ofBool (decide (z = K 0x00000000#32))) (K 0x00000000#32) z = z
    by_cases h : z = K 0x00000000#32
    · rw [decide_eq_true h]
      exact h.symm
    · rw [decide_eq_false h]
      rfl
  have h : comparator_f32_d1 (F := Ideal) x y = BitVec.ofBool (decide
      (Scalar.select (Ideal.cmp .une x x) (K 0x7FC00000#32) (Scalar.select (Ideal.cmp .oeq x (K 0x00000000#32)) (K 0x00000000#32) x)
        < Scalar.select (Ideal.cmp .une y y) (K 0x7FC00000#32) (Scalar.select (Ideal.cmp .oeq y (K 0x00000000#32)) (K 0x00000000#32) y))) := rfl
  rw [h, canon, canon]
  by_cases c : x < y
  · rw [decide_eq_true c]; rfl
  · rw [decide_eq_false c]; rfl

/-- Sorting by an order that agrees with that of the numbers reads each column at its ascending rearrangement. -/
theorem sort_at (X : FVec Ideal S64x2048x128 .f32) (b : Fin 64) (p : Fin 2048) (l : Fin 128) :
    Host.sort S64x2048x128 1 comparator_f32_d1 X (ix3 b p l) = X (ix3 b (ascending (fun r => X (ix3 b r l)) p) l) := by
  have ha : ∀ k : Fin 2048, Shape.Idx.along (s := S64x2048x128) (ix3 b p l) 1 k = ix3 b k l := by
    intro k
    funext a
    match a with
    | ⟨0, _⟩ => rfl
    | ⟨1, _⟩ => rfl
    | ⟨2, _⟩ => rfl
  have hf : (fun k k' : Fin 2048 => comparator_f32_d1 (F := Ideal) (X (Shape.Idx.along (s := S64x2048x128) (ix3 b p l) 1 k))
      (X (Shape.Idx.along (s := S64x2048x128) (ix3 b p l) 1 k')) == 1#1) = fun k k' => decide (X (ix3 b k l) < X (ix3 b k' l)) := by
    funext k k'
    rw [ha, ha, order_eq]
  unfold Host.sort
  rw [dif_pos (by decide : 1 < S64x2048x128.rank)]
  refine (congrArg X (ha (sortedFrom (fun k k' : Fin 2048 => comparator_f32_d1 (F := Ideal) (X (Shape.Idx.along (s := S64x2048x128) (ix3 b p l) 1 k))
      (X (Shape.Idx.along (s := S64x2048x128) (ix3 b p l) 1 k')) == 1#1) p))).trans ?_
  rw [hf, ascending_apply]

/-- The sorted array holds every column's ascending rearrangement. -/
theorem ascend_at (b : Fin 64) (l : Fin 128) (p : Fin 2048) : ascendV V0 (ix3 b l p) = ascend (columnV V0 b l) p.val := by
  rw [ascend_val]
  have e : ascendV V0 = transpose S64x128x2048 [0, 2, 1] (Host.sort S64x2048x128 1 comparator_f32_d1 (argV V0))
      transposes_S64x2048x128_S64x128x2048_0_2_1 := rfl
  rw [e]
  refine (transpose_apply _ _ _ _ (ix3 b p l) fun a => ?_).trans (sort_at (argV V0) b p l)
  match a with
  | ⟨0, _⟩ => rfl
  | ⟨1, _⟩ => rfl
  | ⟨2, _⟩ => rfl

/-- The entries of the sorted columns at given places, where those are in range. -/
def takeV (x : FVec Ideal S64x128x2048 .f32) (idx : IVec S64x1 32) : FVec Ideal S64x128x64 .f32 :=
  select (broadcastInDim S64x128x64 ![2] bcast_S64_S64x128x64_2 (Host.reduce IntOp.andi
      (andi (cmpi .sge idx (broadcastInDim S64x1 ![] bcast_S_S64x1 (constantI S_ 32 0#32)))
        (cmpi .sle idx (broadcastInDim S64x1 ![0, 1] bcast_S1x1_S64x1_0_1 (broadcastInDim S1x1 ![1] bcast_S1_S1x1_1 (constantI S1 32 2047#32)))))
      (constantI S_ 1 1#1) reducesTo_S64x1_S64_d1 h_S_))
    (Host.gather gather_S64x128x2048_S64x1_S64x128x64_01_2_n_n_2_1_641281 x idx)
    (broadcastInDim S64x128x64 ![] bcast_S_S64x128x64 (constant S_ .f32 0x7FC00000#32))

theorem takeV_at (x : FVec Ideal S64x128x2048 .f32) (idx : IVec S64x1 32) (f : Fin 64 → Fin 2048)
    (h : ∀ k, idx (ix2 k (0 : Fin 1)) = BitVec.ofNat 32 (f k).val) (b : Fin 64) (l : Fin 128) (k : Fin 64) :
    takeV x idx (ix3 b l k) = x (ix3 b l (f k)) := by
  have hm : Host.reduce IntOp.andi
      (andi (cmpi .sge idx (broadcastInDim S64x1 ![] bcast_S_S64x1 (constantI S_ 32 0#32)))
        (cmpi .sle idx (broadcastInDim S64x1 ![0, 1] bcast_S1x1_S64x1_0_1 (broadcastInDim S1x1 ![1] bcast_S1_S1x1_1 (constantI S1 32 2047#32)))))
      (constantI S_ 1 1#1) reducesTo_S64x1_S64_d1 h_S_ = fun _ => 1#1 := by
    funext j
    refine Host.reduce_andi_one _ _ _ _ _ rfl fun i => ?_
    obtain ⟨k, z, rfl⟩ : ∃ (k : Fin 64) (z : Fin 1), i = ix2 k z := ⟨i 0, i 1, by funext a; fin_cases a <;> rfl⟩
    obtain rfl := Fin.eq_zero z
    show IntOp.andi (IntOp.cmpi .sge (idx (ix2 k (0 : Fin 1))) 0#32) (IntOp.cmpi .sle (idx (ix2 k (0 : Fin 1))) 2047#32) = 1#1
    rw [h k]
    exact between (by have := (f k).isLt; omega) (by decide)
  unfold takeV
  rw [hm]
  exact read_places x idx b l k (f k) (h k)

/-- The indices of the places before the levels' positions. -/
def placeIx : IVec S64x1 32 := res_main_call5_v5 V0
/-- The indices of the places after the levels' positions. -/
def nextIx : IVec S64x1 32 := res_main_call7_v5 V0

theorem placeIx_at (k : Fin 64) : placeIx V0 (ix2 k (0 : Fin 1)) = BitVec.ofNat 32 (32 * k.val + 15) := by
  have e : placeIx V0 = broadcastInDim S64x1 ![0] bcast_S64_S64x1_0 (select (cmpi .slt (placeV V0) (constantI S64 32 0#32))
      (addi (placeV V0) (constantI S64 32 2048#32)) (placeV V0)) := rfl
  rw [e]
  refine (broadcastInDim_apply _ _ _ _ (ix1 k) fun a => ?_).trans (unwrapped _ _ _ (by omega) (place_at V0 k))
  match a with
  | ⟨0, _⟩ => rfl

theorem nextIx_at (k : Fin 64) : nextIx V0 (ix2 k (0 : Fin 1)) = BitVec.ofNat 32 (32 * k.val + 16) := by
  have e : nextIx V0 = broadcastInDim S64x1 ![0] bcast_S64_S64x1_0 (select (cmpi .slt (nextV V0) (constantI S64 32 0#32))
      (addi (nextV V0) (constantI S64 32 2048#32)) (nextV V0)) := rfl
  rw [e]
  refine (broadcastInDim_apply _ _ _ _ (ix1 k) fun a => ?_).trans (unwrapped _ _ _ (by omega) (next_at V0 k))
  match a with
  | ⟨0, _⟩ => rfl

/-- The reference's table of quantiles. -/
theorem quantile_at (b : Fin 64) (l : Fin 128) (k : Fin 64) : quantileV V0 (ix2 (rowOf b l) k) = quantile (columnV V0 b l) k.val := by
  have e : quantileV V0 = shapeCast S8192x64 (addf
      (mulf (takeV (ascendV V0) (placeIx V0)) (broadcastInDim S64x128x64 ![0, 1, 2] bcast_S1x1x64_S64x128x64_0_1_2 (broadcastInDim S1x1x64 ![2] bcast_S64_S1x1x64_2
        (subf (constant S64 .f32 0x3F800000#32) (fractionV V0)))))
      (mulf (takeV (ascendV V0) (nextIx V0)) (broadcastInDim S64x128x64 ![0, 1, 2] bcast_S1x1x64_S64x128x64_0_1_2 (broadcastInDim S1x1x64 ![2] bcast_S64_S1x1x64_2
        (fractionV V0))))) shapeCasts_S64x128x64_S8192x64 := rfl
  have spread : ∀ v : FVec Ideal S64 .f32, broadcastInDim S64x128x64 ![0, 1, 2] bcast_S1x1x64_S64x128x64_0_1_2 (broadcastInDim S1x1x64 ![2] bcast_S64_S1x1x64_2 v) (ix3 b l k)
      = v (ix1 k) := by
    intro v
    refine (broadcastInDim_apply _ _ _ _ (ix3 (0 : Fin 1) (0 : Fin 1) k) fun a => ?_).trans (broadcastInDim_apply _ _ _ _ (ix1 k) fun a => ?_)
    · match a with
      | ⟨0, _⟩ => rfl
      | ⟨1, _⟩ => rfl
      | ⟨2, _⟩ => rfl
    · match a with
      | ⟨0, _⟩ => rfl
  rw [e]
  refine (shapeCast_apply _ _ _ (ix3 b l k) ?_).trans ?_
  · rw [Shape.rowMajor_val_two, Shape.rowMajor_val_three]
    rfl
  · refine (congrArg₂ (fun u v : EReal => takeV (ascendV V0) (placeIx V0) (ix3 b l k) * u + takeV (ascendV V0) (nextIx V0) (ix3 b l k) * v)
      (spread (subf (constant S64 .f32 0x3F800000#32) (fractionV V0))) (spread (fractionV V0))).trans ?_
    show takeV (ascendV V0) (placeIx V0) (ix3 b l k) * (K 0x3F800000#32 - fractionV V0 (ix1 k))
      + takeV (ascendV V0) (nextIx V0) (ix3 b l k) * fractionV V0 (ix1 k) = _
    rw [takeV_at _ _ (fun k => ⟨32 * k.val + 15, by omega⟩) (placeIx_at V0), takeV_at _ _ (fun k => ⟨32 * k.val + 16, by omega⟩) (nextIx_at V0),
      ascend_at, ascend_at, fraction_at, K_one, ← EReal.coe_sub, show (1 - 1 / 2 : ℝ) = 1 / 2 by norm_num]
    unfold quantile
    rw [EReal.left_distrib_of_nonneg_of_ne_top (by exact_mod_cast (by norm_num : (0 : ℝ) ≤ 1 / 2)) (EReal.coe_ne_top _), mul_comm, mul_comm (ascend _ (32 * k.val + 16))]

/-- The levels, repeated for every column. -/
theorem levelRows_at (r : Fin 8192) (k : Fin 64) : levelRowsV V0 (ix2 r k) = level k.val := by
  have e : levelRowsV V0 = broadcastInDim S8192x64 ![1] bcast_S64_S8192x64_1 (levelsV V0) := rfl
  rw [e]
  refine (broadcastInDim_apply _ _ _ _ (ix1 k) fun a => ?_).trans (levels_at V0 k)
  match a with
  | ⟨0, _⟩ => rfl

end Cert.ReferenceIdeal.Read
-- ==== Proof.RefLookup.lean ====
module

public import proofs.«01_k».proof.Proof.RefQuantiles

@[expose] public section

set_option maxRecDepth 16384

noncomputable section

/-! # The reference's neighbours of an entry -/

namespace Cert.ReferenceIdeal.Read

open Cert.ReferenceIdeal Cert.ReferenceIdeal.Gen Cert.ReferenceIdeal.Value
open Idealize.ShloMosaic hiding ix1 ix2 ix3
open Idealize.ShloMosaic.TcCoe Idealize.SL.Sem
open Idealize.ShloMosaic.ValueIdx Cert.Scalar

variable (V0 : Valuation τ sig (Elt Ideal))

/-- The number of the upper neighbour of every entry. -/
def upperV : IVec S8192x2048 32 := res_main_v38 V0
/-- The number of the lower neighbour of every entry. -/
def lowerV : IVec S8192x2048 32 := res_main_v40 V0

/-- The upper neighbour's number of entry `r` of a column. -/
def upperOf (b : Fin 64) (l : Fin 128) (r : Fin 2048) : Nat := upperIx (below (columnV V0 b l) (columnV V0 b l r))

theorem upperOf_pos (b : Fin 64) (l : Fin 128) (r : Fin 2048) : 1 ≤ upperOf V0 b l r := by
  unfold upperOf upperIx
  omega

theorem upperOf_lt (b : Fin 64) (l : Fin 128) (r : Fin 2048) : upperOf V0 b l r < 64 := by
  unfold upperOf upperIx
  omega

/-- Every row holds some column. -/
theorem exists_row (r : Fin 8192) : ∃ b l, r = rowOf b l :=
  ⟨⟨r.val / 128, by omega⟩, ⟨r.val % 128, by omega⟩, Fin.ext (by show r.val = r.val / 128 * 128 + r.val % 128; omega)⟩

/-- Whether the quantile `k` of a column is at most its entry `r`. -/
def atMostV : IVec S8192x2048x64 1 :=
  cmpf .ole (broadcastInDim S8192x2048x64 ![0, 1, 2] bcast_S8192x1x64_S8192x2048x64_0_1_2 (broadcastInDim S8192x1x64 ![0, 2] bcast_S8192x64_S8192x1x64_0_2 (quantileV V0)))
    (broadcastInDim S8192x2048x64 ![0, 1, 2] bcast_S8192x2048x1_S8192x2048x64_0_1_2 (broadcastInDim S8192x2048x1 ![0, 1] bcast_S8192x2048_S8192x2048x1_0_1 (rowsV V0)))

theorem atMost_at (b : Fin 64) (l : Fin 128) (r : Fin 2048) (k : Fin 64) :
    atMostV V0 (ix3 (rowOf b l) r k) = 1#1 ↔ quantile (columnV V0 b l) k.val ≤ columnV V0 b l r := by
  have hq : broadcastInDim S8192x2048x64 ![0, 1, 2] bcast_S8192x1x64_S8192x2048x64_0_1_2 (broadcastInDim S8192x1x64 ![0, 2] bcast_S8192x64_S8192x1x64_0_2 (quantileV V0))
      (ix3 (rowOf b l) r k) = quantile (columnV V0 b l) k.val := by
    refine (broadcastInDim_apply _ _ _ _ (ix3 (rowOf b l) (0 : Fin 1) k) fun a => ?_).trans
      ((broadcastInDim_apply _ _ _ _ (ix2 (rowOf b l) k) fun a => ?_).trans (quantile_at V0 b l k))
    · match a with
      | ⟨0, _⟩ => rfl
      | ⟨1, _⟩ => rfl
      | ⟨2, _⟩ => rfl
    · match a with
      | ⟨0, _⟩ => rfl
      | ⟨1, _⟩ => rfl
  have hx : broadcastInDim S8192x2048x64 ![0, 1, 2] bcast_S8192x2048x1_S8192x2048x64_0_1_2 (broadcastInDim S8192x2048x1 ![0, 1] bcast_S8192x2048_S8192x2048x1_0_1 (rowsV V0))
      (ix3 (rowOf b l) r k) = columnV V0 b l r := by
    refine (broadcastInDim_apply _ _ _ _ (ix3 (rowOf b l) r (0 : Fin 1)) fun a => ?_).trans
      ((broadcastInDim_apply _ _ _ _ (ix2 (rowOf b l) r) fun a => ?_).trans (rows_at V0 b l r))
    · match a with
      | ⟨0, _⟩ => rfl
      | ⟨1, _⟩ => rfl
      | ⟨2, _⟩ => rfl
    · match a with
      | ⟨0, _⟩ => rfl
      | ⟨1, _⟩ => rfl
  have h : atMostV V0 (ix3 (rowOf b l) r k) = BitVec.ofBool (decide (quantile (columnV V0 b l) k.val ≤ columnV V0 b l r)) :=
    congrArg₂ (fun u v : EReal => Ideal.cmp .ole u v) hq hx
  rw [h]
  exact WordCmp.ofBool_decide_eq_one_iff _

/-- Clipping a count of at most 64. -/
theorem clip_count : ∀ n : Fin 65, IntOp.minsi 63#32 (IntOp.maxsi 1#32 (BitVec.ofNat 32 n.val)) = BitVec.ofNat 32 (upperIx n.val) := by
  unfold upperIx
  decide

/-- The number before a small positive one. -/
theorem word_pred : ∀ n : Fin 64, 1 ≤ n.val → IntOp.subi (BitVec.ofNat 32 n.val) 1#32 = BitVec.ofNat 32 (n.val - 1) := by
  decide

theorem upper_at (b : Fin 64) (l : Fin 128) (r : Fin 2048) : upperV V0 (ix2 (rowOf b l) r) = BitVec.ofNat 32 (upperOf V0 b l r) := by
  classical
  have e : upperV V0 (ix2 (rowOf b l) r) = IntOp.minsi 63#32 (IntOp.maxsi 1#32 (Host.reduce IntOp.addi (extui 32 (atMostV V0) natLt_1_32) (constantI S_ 32 0#32)
      reducesTo_S8192x2048x64_S8192x2048_d2 h_S_ (ix2 (rowOf b l) r))) := rfl
  have hc : (Finset.univ.filter fun k : Fin 64 => atMostV V0 (ix3 (rowOf b l) r k) = 1#1).card = below (columnV V0 b l) (columnV V0 b l r) := by
    unfold below
    refine congrArg Finset.card (Finset.ext fun k => ?_)
    simp only [Finset.mem_filter, Finset.mem_univ, true_and]
    exact atMost_at V0 b l r k
  rw [e, count_at, hc]
  exact clip_count ⟨below (columnV V0 b l) (columnV V0 b l r), Nat.lt_succ_of_le (below_le _ _)⟩

theorem lower_at (b : Fin 64) (l : Fin 128) (r : Fin 2048) : lowerV V0 (ix2 (rowOf b l) r) = BitVec.ofNat 32 (upperOf V0 b l r - 1) := by
  have e : lowerV V0 (ix2 (rowOf b l) r) = IntOp.subi (upperV V0 (ix2 (rowOf b l) r)) 1#32 := rfl
  rw [e, upper_at]
  exact word_pred ⟨upperOf V0 b l r, upperOf_lt V0 b l r⟩ (upperOf_pos V0 b l r)

/-- Numbers of table entries as indices. -/
def indexV (v : IVec S8192x2048 32) : IVec S8192x2048x1 32 :=
  shapeCast S8192x2048x1 (select (cmpi .slt v (constantI S8192x2048 32 0#32)) (addi v (constantI S8192x2048 32 64#32)) v) shapeCasts_S8192x2048_S8192x2048x1

theorem indexV_at (v : IVec S8192x2048 32) (r : Fin 8192) (j : Fin 2048) {n : Nat} (hn : n < 64) (h : v (ix2 r j) = BitVec.ofNat 32 n) :
    indexV v (ix3 r j (0 : Fin 1)) = BitVec.ofNat 32 n := by
  unfold indexV
  refine (shapeCast_apply _ _ _ (ix2 r j) ?_).trans (unwrapped _ _ _ (by omega) h)
  rw [Shape.rowMajor_val_two, Shape.rowMajor_val_three]
  show r.val * 2048 + j.val = (r.val * 2048 + j.val) * 1 + 0
  omega

/-- The entries of every row of a table at that row's indices, where those are in range. -/
def pickV (x : FVec Ideal S8192x64 .f32) (idx : IVec S8192x2048x1 32) : FVec Ideal S8192x2048 .f32 :=
  select (Host.reduce IntOp.andi (andi (cmpi .sge idx (broadcastInDim S8192x2048x1 ![] bcast_S_S8192x2048x1 (constantI S_ 32 0#32)))
      (cmpi .sle idx (broadcastInDim S8192x2048x1 ![0, 1, 2] bcast_S1x1x1_S8192x2048x1_0_1_2 (broadcastInDim S1x1x1 ![2] bcast_S1_S1x1x1_2 (constantI S1 32 63#32)))))
      (constantI S_ 1 1#1) reducesTo_S8192x2048x1_S8192x2048_d2 h_S_)
    (Host.gather gather_S8192x64_S8192x2048x1_S8192x2048_n_1_0_0_1_2_11 x idx)
    (broadcastInDim S8192x2048 ![] bcast_S_S8192x2048 (constant S_ .f32 0x7FC00000#32))

theorem pickV_at (x : FVec Ideal S8192x64 .f32) (v : IVec S8192x2048 32) (f : Fin 64 → Fin 128 → Fin 2048 → Nat) (hf : ∀ b l r, f b l r < 64)
    (h : ∀ b l r, v (ix2 (rowOf b l) r) = BitVec.ofNat 32 (f b l r)) (b : Fin 64) (l : Fin 128) (r : Fin 2048) :
    pickV x (indexV v) (ix2 (rowOf b l) r) = x (ix2 (rowOf b l) ⟨f b l r, hf b l r⟩) := by
  have hm : Host.reduce IntOp.andi (andi (cmpi .sge (indexV v) (broadcastInDim S8192x2048x1 ![] bcast_S_S8192x2048x1 (constantI S_ 32 0#32)))
      (cmpi .sle (indexV v) (broadcastInDim S8192x2048x1 ![0, 1, 2] bcast_S1x1x1_S8192x2048x1_0_1_2 (broadcastInDim S1x1x1 ![2] bcast_S1_S1x1x1_2 (constantI S1 32 63#32)))))
      (constantI S_ 1 1#1) reducesTo_S8192x2048x1_S8192x2048_d2 h_S_ = fun _ => 1#1 := by
    funext j
    refine Host.reduce_andi_one _ _ _ _ _ rfl fun i => ?_
    obtain ⟨q, r, z, rfl⟩ : ∃ (q : Fin 8192) (r : Fin 2048) (z : Fin 1), i = ix3 q r z := ⟨i 0, i 1, i 2, by funext a; fin_cases a <;> rfl⟩
    obtain rfl := Fin.eq_zero z
    obtain ⟨b, l, rfl⟩ := exists_row q
    show IntOp.andi (IntOp.cmpi .sge (indexV v (ix3 (rowOf b l) r (0 : Fin 1))) 0#32) (IntOp.cmpi .sle (indexV v (ix3 (rowOf b l) r (0 : Fin 1))) 63#32) = 1#1
    rw [indexV_at v _ _ (hf b l r) (h b l r)]
    exact between (by have := hf b l r; omega) (by decide)
  unfold pickV
  rw [hm]
  exact read_rows x (indexV v) (rowOf b l) r ⟨f b l r, hf b l r⟩ (indexV_at v _ _ (hf b l r) (h b l r))

/-- The entries of a table at the upper neighbours. -/
theorem pick_upper (x : FVec Ideal S8192x64 .f32) (b : Fin 64) (l : Fin 128) (r : Fin 2048) :
    pickV x (indexV (upperV V0)) (ix2 (rowOf b l) r) = x (ix2 (rowOf b l) ⟨upperOf V0 b l r, upperOf_lt V0 b l r⟩) :=
  pickV_at x (upperV V0) (upperOf V0) (upperOf_lt V0) (upper_at V0) b l r

/-- The entries of a table at the lower neighbours. -/
theorem pick_lower (x : FVec Ideal S8192x64 .f32) (b : Fin 64) (l : Fin 128) (r : Fin 2048) :
    pickV x (indexV (lowerV V0)) (ix2 (rowOf b l) r)
      = x (ix2 (rowOf b l) ⟨upperOf V0 b l r - 1, Nat.lt_of_le_of_lt (Nat.sub_le _ _) (upperOf_lt V0 b l r)⟩) :=
  pickV_at x (lowerV V0) (fun b l r => upperOf V0 b l r - 1) (fun b l r => Nat.lt_of_le_of_lt (Nat.sub_le _ _) (upperOf_lt V0 b l r))
    (lower_at V0) b l r

end Cert.ReferenceIdeal.Read
-- ==== Proof.RefFinish.lean ====
module

public import proofs.«01_k».proof.Proof.RefLookup
public import proofs.«01_k».proof.Proof.Array

@[expose] public section

set_option maxRecDepth 16384

noncomputable section

/-! # The reference's result -/

namespace Cert.Scalar

open Idealize.ShloMosaic

/-- Clipping twice, first to a wider interval, is clipping once. -/
theorem clip_clip (t : EReal) :
    min (K 0x3F7FFFEF#32) (max (K 0x358637BD#32) (min (K 0x3F800000#32) (max (K 0x322BCC77#32) t)))
      = min (K 0x3F7FFFEF#32) (max (K 0x358637BD#32) t) := by
  obtain ⟨u, hu, -, hu'⟩ := K_low
  obtain ⟨v, hv, -, hv'⟩ := K_high
  have h1 : K 0x358637BD#32 ≤ K 0x3F800000#32 := by
    rw [hu, K_one]
    exact_mod_cast (by linarith : u ≤ 1)
  have h2 : K 0x3F7FFFEF#32 ≤ K 0x3F800000#32 := by
    rw [hv, K_one]
    exact_mod_cast hv'.le
  rw [max_min_distrib_left, max_eq_right h1, ← max_assoc, max_eq_left K_clips, ← min_assoc, min_eq_left h2]

/-- The argument of the expansion is a number between -1 and 1. -/
theorem signed_real (lev x low high : EReal) : ∃ s : ℝ, signed lev x low high = (s : EReal) ∧ -1 < s ∧ s < 1 := by
  obtain ⟨u, hu, hu0, hu'⟩ := K_low
  obtain ⟨v, hv, hv0, hv'⟩ := K_high
  unfold signed
  generalize lev + Ideal.div (K 0x3C800000#32) (max (high - low) (K 0x2B8CBCCC#32)) * (x - low) = t
  rw [hu, hv, K_two, K_one]
  obtain ⟨p, hp, h1, h2⟩ : ∃ p : ℝ, min (v : EReal) (max (u : EReal) t) = (p : EReal) ∧ u ≤ p ∧ p ≤ v := by
    have lo : (u : EReal) ≤ min (v : EReal) (max (u : EReal) t) := le_min (by exact_mod_cast (by linarith : u ≤ v)) (le_max_left _ _)
    have hi : min (v : EReal) (max (u : EReal) t) ≤ v := min_le_left _ _
    generalize min (v : EReal) (max (u : EReal) t) = w at lo hi
    induction w with
    | bot => exact absurd lo (not_le.mpr (EReal.bot_lt_coe u))
    | top => exact absurd hi (not_le.mpr (EReal.coe_lt_top v))
    | coe p => exact ⟨p, rfl, by exact_mod_cast lo, by exact_mod_cast hi⟩
  rw [hp, ← EReal.coe_mul, ← EReal.coe_sub]
  exact ⟨_, rfl, by linarith, by linarith⟩

/-- The two spellings of the variable of the expansion. -/
theorem depth_eq (s : ℝ) : -Ideal.log1p (-(s : EReal) * (s : EReal)) = depth (s : EReal) := by
  unfold depth Ideal.log1p
  rw [K_zero, K_one, EReal.coe_zero, zero_sub]
  have e : (1 + -(s : EReal) * (s : EReal)) = ((1 : ℝ) - (s : EReal)) * ((1 : ℝ) + (s : EReal)) := by
    rw [show (1 : EReal) = ((1 : ℝ) : EReal) from rfl]
    simp only [← EReal.coe_neg, ← EReal.coe_mul, ← EReal.coe_add, ← EReal.coe_sub]
    congr 1
    ring
  rw [e]

/-- Two neighbouring levels are a 64th apart. -/
theorem level_step {n : Nat} (h : 1 ≤ n) : level n - level (n - 1) = K 0x3C800000#32 := by
  unfold level
  rw [K_64th, ← EReal.coe_sub, Nat.cast_sub h]
  congr 1
  push_cast
  ring

end Cert.Scalar

namespace Cert.ReferenceIdeal.Read

open Cert.ReferenceIdeal Cert.ReferenceIdeal.Gen Cert.ReferenceIdeal.Value
open Idealize.ShloMosaic hiding ix1 ix2 ix3
open Idealize.ShloMosaic.TcCoe Idealize.SL.Sem
open Idealize.ShloMosaic.ValueIdx Cert.Scalar

variable (V0 : Valuation τ sig (Elt Ideal))

section Plain
variable (c : IVec S8192x2048 1) (v w ll lu ql qu x : FVec Ideal S8192x2048 .f32) (i : S8192x2048.Idx)

/-- A constant at every entry. -/
def allV (a : BitVec 32) : FVec Ideal S8192x2048 .f32 := broadcastInDim S8192x2048 ![] bcast_S_S8192x2048 (constant S_ .f32 a)

/-- Clipping every entry to an interval. -/
def clipV (lo hi : BitVec 32) : FVec Ideal S8192x2048 .f32 := minimumf (allV hi) (maximumf (allV lo) v)

theorem clipV_at (lo hi : BitVec 32) : clipV v lo hi i = min (K hi) (max (K lo) (v i)) := rfl

/-- The level interpolated between the neighbours: `ll` and `lu` are the neighbours' levels, `ql` and `qu` the neighbours. -/
def interpolatedV : FVec Ideal S8192x2048 .f32 :=
  addf ll (mulf (Host.divf (subf lu ll) (maximumf (subf qu ql) (allV 0x2B8CBCCC#32))) (subf x ql))

theorem interpolatedV_at : interpolatedV ll lu ql qu x i
    = ll i + Ideal.div (lu i - ll i) (max (qu i - ql i) (K 0x2B8CBCCC#32)) * (x i - ql i) := rfl

/-- Clipping every entry twice and scaling it to the interval from -1 to 1. -/
def scaledV : FVec Ideal S8192x2048 .f32 :=
  subf (mulf (allV 0x40000000#32) (clipV (clipV v 0x322BCC77#32 0x3F800000#32) 0x358637BD#32 0x3F7FFFEF#32)) (allV 0x3F800000#32)

theorem scaledV_at : scaledV v i
    = K 0x40000000#32 * clipV (clipV v 0x322BCC77#32 0x3F800000#32) 0x358637BD#32 0x3F7FFFEF#32 i - K 0x3F800000#32 := rfl

/-- The variable of the expansion, at every entry. -/
def variableV : FVec Ideal S8192x2048 .f32 := Host.negf (Host.log1p (mulf (Host.negf v) v))

theorem variableV_at : variableV v i = -Ideal.log1p (-v i * v i) := rfl

/-- Whether the variable is in the core of the distribution. -/
def insideV : IVec S8192x2048 1 := cmpf .olt v (allV 0x40A00000#32)

theorem insideV_at : insideV v i = Ideal.cmp .olt (v i) (K 0x40A00000#32) := rfl

/-- The shifted variable of the expansion. -/
def shiftV : FVec Ideal S8192x2048 .f32 := select c (subf v (allV 0x40200000#32)) (subf (Host.sqrt v) (allV 0x40400000#32))

theorem shiftV_at : shiftV c v i = Scalar.select (c i) (v i - K 0x40200000#32) (Ideal.sqrt (v i) - K 0x40400000#32) := rfl

/-- One of two constants at every entry. -/
def eitherV (a b : BitVec 32) : FVec Ideal S8192x2048 .f32 := id (select c (allV a) (allV b))

theorem eitherV_at (a b : BitVec 32) : eitherV c a b i = Scalar.select (c i) (K a) (K b) := rfl

/-- The product of two vectors and a constant. -/
def productV (a : BitVec 32) : FVec Ideal S8192x2048 .f32 := mulf (mulf v w) (allV a)

theorem productV_at (a : BitVec 32) : productV v w a i = v i * w i * K a := rfl

end Plain

/-- One step of the evaluation of the expansion. -/
def stepV (c : IVec S8192x2048 1) (v : FVec Ideal S8192x2048 .f32) (a b : BitVec 32) (w : FVec Ideal S8192x2048 .f32) : FVec Ideal S8192x2048 .f32 := addf (eitherV c a b) (mulf w v)

theorem stepV_at (c : IVec S8192x2048 1) (v : FVec Ideal S8192x2048 .f32) (a b : BitVec 32) (w : FVec Ideal S8192x2048 .f32) (i : S8192x2048.Idx) :
    stepV c v a b w i = Scalar.select (c i) (K a) (K b) + w i * v i := rfl

/-- The inverse normal distribution function, with a choice at every coefficient. -/
def chosen (c : BitVec 1) (v s : EReal) : EReal :=
  (Scalar.select c (K 0x3FC02E2F#32) (K 0x40354F7E#32) + (Scalar.select c (K 0x3E7C8F63#32) (K 0x3F8036DB#32)
    + (Scalar.select c (K 0xBB88E4EF#32) (K 0x3C1AA57E#32) + (Scalar.select c (K 0xBAA45408#32) (K 0xBBF9C5D7#32)
    + (Scalar.select c (K 0x396532DB#32) (K 0x3BBC127B#32) + (Scalar.select c (K 0xB6935AC1#32) (K 0xBB70BDE7#32)
    + (Scalar.select c (K 0xB66C7357#32) (K 0x3AB0DC72#32) + (Scalar.select c (K 0x34B84B36#32) (K 0x38D3B56B#32)
    + Scalar.select c (K 0x32F16588#32) (K 0xB951F09B#32) * v) * v) * v) * v) * v) * v) * v) * v) * s * K 0x3FB504F3#32

/-- It is the inverse normal distribution function. -/
theorem chosen_eq (s : ℝ) :
    chosen (Ideal.cmp .olt (depth s) (K 0x40A00000#32))
      (Scalar.select (Ideal.cmp .olt (depth s) (K 0x40A00000#32)) (depth s - K 0x40200000#32) (Ideal.sqrt (depth s) - K 0x40400000#32)) s
      = probit s := by
  have hc : Ideal.cmp .olt (depth s) (K 0x40A00000#32) = BitVec.ofBool (decide (depth s < K 0x40A00000#32)) := rfl
  unfold probit
  rw [hc]
  by_cases h : depth s < K 0x40A00000#32
  · rw [decide_eq_true h, if_pos h]
    rfl
  · rw [decide_eq_false h, if_neg h, max_eq_left (not_lt.mp h)]
    rfl

/-- The expansion evaluated at every entry. -/
def evaluatedV (c : IVec S8192x2048 1) (v s : FVec Ideal S8192x2048 .f32) : FVec Ideal S8192x2048 .f32 :=
  productV (stepV c v 0x3FC02E2F#32 0x40354F7E#32
    (stepV c v 0x3E7C8F63#32 0x3F8036DB#32
    (stepV c v 0xBB88E4EF#32 0x3C1AA57E#32
    (stepV c v 0xBAA45408#32 0xBBF9C5D7#32
    (stepV c v 0x396532DB#32 0x3BBC127B#32
    (stepV c v 0xB6935AC1#32 0xBB70BDE7#32
    (stepV c v 0xB66C7357#32 0x3AB0DC72#32
    (stepV c v 0x34B84B36#32 0x38D3B56B#32
    (eitherV c 0x32F16588#32 0xB951F09B#32))))))))) s 0x3FB504F3#32

theorem evaluatedV_at (c : IVec S8192x2048 1) (v s : FVec Ideal S8192x2048 .f32) (i : S8192x2048.Idx) :
    evaluatedV c v s i = chosen (c i) (v i) (s i) := by
  unfold evaluatedV chosen
  rw [productV_at]
  iterate 8 rw [stepV_at]
  rw [eitherV_at]

/-- The argument of the expansion. -/
def signedV : FVec Ideal S8192x2048 .f32 := res_main_v60 V0
/-- The variable of the expansion. -/
def depthV : FVec Ideal S8192x2048 .f32 := res_main_v64 V0
/-- Whether an entry is in the core of the distribution. -/
def coreV : IVec S8192x2048 1 := res_main_v66 V0
/-- The shifted variable of the expansion. -/
def shiftedV : FVec Ideal S8192x2048 .f32 := res_main_v72 V0
/-- The reference's result, before it is laid out like the argument. -/
def resultV : FVec Ideal S8192x2048 .f32 := evaluatedV (coreV V0) (shiftedV V0) (signedV V0)

theorem signedV_eq : signedV V0 = scaledV (interpolatedV (pickV (levelRowsV V0) (indexV (lowerV V0))) (pickV (levelRowsV V0) (indexV (upperV V0)))
    (pickV (quantileV V0) (indexV (lowerV V0))) (pickV (quantileV V0) (indexV (upperV V0))) (rowsV V0)) := rfl
theorem depthV_eq : depthV V0 = variableV (signedV V0) := rfl
theorem coreV_eq : coreV V0 = insideV (depthV V0) := rfl
theorem shiftedV_eq : shiftedV V0 = shiftV (coreV V0) (depthV V0) := rfl

/-- The interpolated level at an entry, scaled to the interval from -1 to 1. -/
theorem signed_at (b : Fin 64) (l : Fin 128) (r : Fin 2048) : signedV V0 (ix2 (rowOf b l) r)
    = signed (level (upperOf V0 b l r - 1)) (columnV V0 b l r) (quantile (columnV V0 b l) (upperOf V0 b l r - 1)) (quantile (columnV V0 b l) (upperOf V0 b l r)) := by
  rw [signedV_eq, scaledV_at, clipV_at, clipV_at, clip_clip, interpolatedV_at, pick_upper, pick_upper, pick_lower, pick_lower,
    levelRows_at, levelRows_at, quantile_at, quantile_at, rows_at, level_step (upperOf_pos V0 b l r)]
  unfold signed
  rfl

theorem result_at (b : Fin 64) (l : Fin 128) (r : Fin 2048) : resultV V0 (ix2 (rowOf b l) r)
    = result (quantile (columnV V0 b l)) (columnV V0 b l r) (below (columnV V0 b l) (columnV V0 b l r)) := by
  have hs := signed_at V0 b l r
  obtain ⟨s, es, -, -⟩ := signed_real (level (upperOf V0 b l r - 1)) (columnV V0 b l r) (quantile (columnV V0 b l) (upperOf V0 b l r - 1))
    (quantile (columnV V0 b l) (upperOf V0 b l r))
  unfold resultV
  rw [evaluatedV_at, shiftedV_eq, shiftV_at, coreV_eq, insideV_at, depthV_eq, variableV_at, hs, es, depth_eq, chosen_eq, ← es]
  unfold result upperOf
  rfl

/-- The reference's result is the target of its argument. -/
theorem reference_eq :
    transpose S64x2048x128 [0, 2, 1] (shapeCast S64x128x2048 (resultV V0) shapeCasts_S8192x2048_S64x128x2048) transposes_S64x128x2048_S64x2048x128_0_2_1
      = target (argV V0) := by
  funext i
  obtain ⟨b, r, l, rfl⟩ : ∃ (b : Fin 64) (r : Fin 2048) (l : Fin 128), i = ix3 b r l := ⟨i 0, i 1, i 2, by funext a; fin_cases a <;> rfl⟩
  refine (transpose_apply _ _ _ _ (ix3 b l r) fun a => ?_).trans ((shapeCast_apply _ _ _ (ix2 (rowOf b l) r) ?_).trans (result_at V0 b l r))
  · match a with
    | ⟨0, _⟩ => rfl
    | ⟨1, _⟩ => rfl
    | ⟨2, _⟩ => rfl
  · rw [Shape.rowMajor_val_two, Shape.rowMajor_val_three]
    rfl

end Cert.ReferenceIdeal.Read
-- ==== Proof.lean ====
/- The claim: the frames of the three programs, the named constant, and the equation of the kernel and the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.RefFinish
public import Idealize.ShloMosaic.Adequacy
public import Idealize.ShloMosaic.Init
public import Idealize.ShloMosaic.Lib.Quiescent

@[expose] public section

noncomputable section

namespace Cert.Proof

open Idealize.ShloMosaic Idealize.SL.Sem

/-- The kernel as written runs to its end, leaves its argument as it was, and every counter is zero again. -/
theorem frame_p : Cert.quiescent_Kernel := fun m ρ _ => Cert.Kernel.Gen.frame m ρ

/-- The kernel over the extended reals runs to its end in the same way. -/
theorem frame_pi : Cert.quiescent_KernelIdeal := fun m ρ _ => Cert.KernelIdeal.Gen.frame m ρ

/-- The reference over the extended reals runs to its end, leaves its argument as it was, and uses no counter. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one named constant: the kernel's `3e38`, named `big`, stands for plus infinity. -/
theorem preserves : Cert.preserves_Kernel_KernelIdeal :=
  IdealRules.named_const.statement Cert.KernelIdeal.κ "big" .f32 0x7F61B1E6#32 ⊤ rfl

/-- The kernel over the extended reals leaves the target of its argument. -/
theorem kernel_run (m : (ℓ : Loc Cert.KernelIdeal.nD Cert.KernelIdeal.τ Cert.KernelIdeal.sig) → Buf (Elt Ideal) ℓ) (ρ : Dev Cert.KernelIdeal.nD → PrngReg) :
    θ_run Cert.KernelIdeal.defs (onTc (τ := Cert.KernelIdeal.τ) (Cert.KernelIdeal.main (F := Ideal))) ⟨m, fun _ => 0, ρ⟩ fun r =>
      ∀ c : Dev Cert.KernelIdeal.nD,
        r.2.mem ((c.tc : Thread Cert.KernelIdeal.nD Cert.KernelIdeal.τ).loc Cert.KernelIdeal.main_v0)
            = Cert.Scalar.target (Cert.KernelIdeal.Body.argument m c)
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0) :=
  (θ_run Cert.KernelIdeal.defs _ _).mono
    (fun _ h c => ⟨(h c).1.trans (Cert.KernelIdeal.Body.array_eq m c), (h c).2⟩)
    (Cert.KernelIdeal.Value.run_blocks (F := Ideal) m ρ)

/-- The reference over the extended reals leaves the target of its argument. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v111)
            = Cert.Scalar.target (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0) :=
  (θ_run Cert.ReferenceIdeal.defs _ _).mono
    (fun _ h c => ⟨(h c).1.trans (Cert.ReferenceIdeal.Read.reference_eq (StableHlo.launchContents m c)), (h c).2⟩)
    (Cert.ReferenceIdeal.Value.run (F := Ideal) m ρ)

/-- On one argument the kernel and the reference leave one result. -/
theorem algebraic : Cert.algebraic_KernelIdeal_ReferenceIdeal := by
  intro m ρ m' ρ' _ hagree
  refine ⟨fun c => Cert.Scalar.target (Cert.KernelIdeal.Body.argument m c), kernel_run m ρ, ?_⟩
  exact (θ_run Cert.ReferenceIdeal.defs _ _).mono
    (fun _ h c => ⟨(h c).1.trans (congrArg Cert.Scalar.target (hagree c)), (h c).2⟩)
    (reference_run m' ρ')

theorem claim : Cert.Claim := ⟨Cert.Kernel.Gen.facts, Cert.KernelIdeal.Gen.facts, Cert.ReferenceIdeal.Gen.facts,
  frame_p, frame_pi, frame_ri, preserves, algebraic⟩

end Cert.Proof

end
